-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x256x6784 : Shape := ⟨3, ![3, 256, 6784]⟩
abbrev S1 : Shape := ⟨1, ![1]⟩
abbrev S6784x8960 : Shape := ⟨2, ![6784, 8960]⟩
abbrev S8960 : Shape := ⟨1, ![8960]⟩
abbrev S96x8x8960 : Shape := ⟨3, ![96, 8, 8960]⟩
abbrev S6784x1280 : Shape := ⟨2, ![6784, 1280]⟩
abbrev S96x8x1280 : Shape := ⟨3, ![96, 8, 1280]⟩
abbrev S768x6784 : Shape := ⟨2, ![768, 6784]⟩
abbrev S768x1280 : Shape := ⟨2, ![768, 1280]⟩
abbrev S1280 : Shape := ⟨1, ![1280]⟩
abbrev S1x1280 : Shape := ⟨2, ![1, 1280]⟩
abbrev S3x256x8960 : Shape := ⟨3, ![3, 256, 8960]⟩

abbrev nBuf : Space → Nat
  | .hbm => 8
  | .vmem => 7
  | .smem => 2
  | _ => 0

abbrev bufTy : (tb : Table) → Fin (tcTables nBuf tb) → BufTy
  | .hbm, ⟨0, _⟩ => ⟨S3x256x6784, .bf16⟩
  | .hbm, ⟨1, _⟩ => ⟨S1, .f32⟩
  | .hbm, ⟨2, _⟩ => ⟨S6784x8960, .fp8e4m3⟩
  | .hbm, ⟨3, _⟩ => ⟨S8960, .f32⟩
  | .hbm, ⟨4, _⟩ => ⟨S96x8x8960, .bf16⟩
  | .hbm, ⟨5, _⟩ => ⟨S3x256x6784, .fp8e4m3⟩
  | .hbm, ⟨6, _⟩ => ⟨S1, .f32⟩
  | .hbm, ⟨7, _⟩ => ⟨S3x256x8960, .bf16⟩
  | .local _ .vmem, ⟨0, _⟩ => ⟨S3x256x6784, .bf16⟩
  | .local _ .vmem, ⟨1, _⟩ => ⟨S6784x1280, .fp8e4m3⟩
  | .local _ .vmem, ⟨2, _⟩ => ⟨S6784x1280, .fp8e4m3⟩
  | .local _ .vmem, ⟨3, _⟩ => ⟨S8960, .f32⟩
  | .local _ .vmem, ⟨4, _⟩ => ⟨S96x8x1280, .bf16⟩
  | .local _ .vmem, ⟨5, _⟩ => ⟨S96x8x1280, .bf16⟩
  | .local _ .vmem, ⟨6, _⟩ => ⟨S3x256x6784, .fp8e4m3⟩
  | .local _ .smem, ⟨0, _⟩ => ⟨S1, .f32⟩
  | .local _ .smem, ⟨1, _⟩ => ⟨S1, .f32⟩
  | _, _ => ⟨S3x256x6784, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg0_0 : Ref sig .tc := ⟨.smem, 0, rfl⟩
abbrev cc0_stg6_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![7], ![false]⟩

def k0_off1 (i : grid0.Coords) : Fin 1 → Nat :=
  let arg0 : BitVec 32 := BitVec.ofNat 32 (i 0).val
  let c1280_i32 : BitVec 32 := 1280#32
  let v9 : BitVec 32 := Scalar.muli arg0 c1280_i32
  let v10 : Index := Scalar.indexCast v9
  ![v10.toNat]
def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3x256x6784 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S6784x1280 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8960 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S96x8x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x256x6784 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S3x256x6784 : Shape := ⟨3, ![3, 256, 6784]⟩
abbrev S1 : Shape := ⟨1, ![1]⟩
abbrev S6784x8960 : Shape := ⟨2, ![6784, 8960]⟩
abbrev S8960 : Shape := ⟨1, ![8960]⟩
abbrev S3x256x8960 : Shape := ⟨3, ![3, 256, 8960]⟩
abbrev S1x254 : Shape := ⟨2, ![1, 254]⟩
abbrev S1x1 : Shape := ⟨2, ![1, 1]⟩
abbrev S1x1x254 : Shape := ⟨3, ![1, 1, 254]⟩
abbrev S1x1x1 : Shape := ⟨3, ![1, 1, 1]⟩
abbrev S768x6784 : Shape := ⟨2, ![768, 6784]⟩
abbrev S768x8960 : Shape := ⟨2, ![768, 8960]⟩
abbrev S1x8960 : Shape := ⟨2, ![1, 8960]⟩

abbrev nBuf : Space → Nat
  | .hbm => 7
  | .vmem => 7
  | .smem => 0
  | _ => 0

abbrev bufTy : (tb : Table) → Fin (tcTables nBuf tb) → BufTy
  | .hbm, ⟨0, _⟩ => ⟨S3x256x6784, .bf16⟩
  | .hbm, ⟨1, _⟩ => ⟨S1, .f32⟩
  | .hbm, ⟨2, _⟩ => ⟨S6784x8960, .fp8e4m3⟩
  | .hbm, ⟨3, _⟩ => ⟨S8960, .f32⟩
  | .hbm, ⟨4, _⟩ => ⟨S3x256x8960, .bf16⟩
  | .hbm, ⟨5, _⟩ => ⟨S3x256x6784, .fp8e4m3⟩
  | .hbm, ⟨6, _⟩ => ⟨S1, .f32⟩
  | .local _ .vmem, ⟨0, _⟩ => ⟨S3x256x6784, .bf16⟩
  | .local _ .vmem, ⟨1, _⟩ => ⟨S1, .f32⟩
  | .local _ .vmem, ⟨2, _⟩ => ⟨S6784x8960, .fp8e4m3⟩
  | .local _ .vmem, ⟨3, _⟩ => ⟨S8960, .f32⟩
  | .local _ .vmem, ⟨4, _⟩ => ⟨S3x256x8960, .bf16⟩
  | .local _ .vmem, ⟨5, _⟩ => ⟨S3x256x6784, .fp8e4m3⟩
  | .local _ .vmem, ⟨6, _⟩ => ⟨S1, .f32⟩
  | _, _ => ⟨S3x256x6784, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S3x256x6784 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6784x8960 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8960 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x256x8960 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x256x6784 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.MachineBody.lean ====
/- `Body` for the kernel as printed for the machine: what the body leaves in each output. -/
module

public import proofs.«01_k».proof.Proof.Gen.Kernel.Frame
public import proofs.«01_k».proof.Proof.Gen.Kernel.Skeleton
public import Idealize.ShloMosaic.Lib.Claim
public import Idealize.ShloMosaic.Lib.UnfoldOut
public import Idealize.ShloMosaic.Lib.Pipeline.Value
public import Idealize.ShloMosaic.Lib.WordCmp

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body computes -/

/-- One step of the search for the exponent field of `|s|`: the bit joins the field found so far if the power of two
    with the joined field is not above `|s|`. -/
def step (s : F .f32) (b bit : BitVec 32) : BitVec 32 :=
  Scalar.select (Scalar.cmpf .oge (Scalar.absf s) (Scalar.ofBits .f32 (Scalar.shli (Scalar.addi b bit) 23#32))) (Scalar.addi b bit) b

/-- The exponent field's seven high bits, as the search finds them. -/
def high (s : F .f32) : BitVec 32 :=
  step s (step s (step s (step s (step s (step s (step s 0#32 128#32) 64#32) 32#32) 16#32) 8#32) 4#32) 2#32

/-- The whole exponent field. -/
def field (s : F .f32) : BitVec 32 := step s (high s) 1#32

/-- The power of two the codes are scaled by. -/
def invScale (s : F .f32) : F .f32 :=
  Scalar.ofBits .f32 (Scalar.shli
    (Scalar.select (Scalar.ori (Scalar.cmpi .eq (field s) 0#32) (Scalar.cmpi .eq (field s) 255#32)) 128#32 (Scalar.subi 254#32 (field s))) 23#32)

/-- The codes: `x` times the power of two, clipped and rounded to the eight-bit format. -/
def codesOf (s : F .f32) (x : Vec F S3x256x6784 .bf16) : FVec F S3x256x6784 .fp8e4m3 :=
  truncf .fp8e4m3 (minimumf (broadcast S3x256x6784 (Scalar.ofBits .f32 0x43E00000#32))
    (maximumf (broadcast S3x256x6784 (Scalar.ofBits .f32 0xC3E00000#32))
      (mulf (extf .f32 x bitsLt_bf16_f32) (broadcast S3x256x6784 (invScale s))))) bitsLt_fp8e4m3_f32

/-- The one entry of a scale array. -/
def entry (x0 : Vec F S1 .f32) : F .f32 := x0 (Shape.Idx.first (by decide))

/-- The block of column scales that grid point `i` reads. -/
abbrev scaleBlock (i : grid0.Coords) (x3 : Vec F S8960 .f32) : Vec F S1280 .f32 :=
  View.ld x3 (Rect.unit (s := S8960) (k0_off1 i) S1280.size (k0_off1_inb i))

theorem codesOf_eq (s : F .f32) (x : Vec F S3x256x6784 .bf16) :
    k0_pay1 (k0_pay3 x) (k0_pay4 s) (high s) (Scalar.addi (high s) 1#32) 23#32 = codesOf s x := rfl

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

theorem idx1 (i j : S1.Idx) : i = j := funext fun a => by
  have := (i a).isLt; have := (j a).isLt
  fin_cases a; apply Fin.ext; simp at *; omega

theorem eq_entry (x0 : Vec F S1 .f32) (j : S1.Idx) : x0 j = entry x0 := congrArg x0 (idx1 _ _)

abbrev cond0_0 (i : grid0.Coords) : Prop := k0_cond1 i = 1#1

abbrev rX : Rect S3x256x6784 := Rect.unit (s := S3x256x6784) ![0, 0, 0] S3x256x6784.size inb_S3x256x6784_S3x256x6784_0_0_0
abbrev rY : Rect S96x8x1280 := Rect.unit (s := S96x8x1280) ![0, 0, 0] S96x8x1280.size inb_S96x8x1280_S96x8x1280_0_0_0
abbrev rS : Rect S1 := Rect.unit (s := S1) ![0] S1.size inb_S1_S1_0

theorem coverX (p0 : Vec F S3x256x6784 .fp8e4m3) (y : S3x256x6784.Idx) :
    ∃ pc ∈ ([⟨rX, p0⟩] : List (View.Piece (Elt F) S3x256x6784 .fp8e4m3)), y ∈ pc.1.set :=
  View.cover_of_tiled [⟨rX, p0⟩] S3x256x6784.size (by rfl) y
theorem coverY (p0 : Vec F S96x8x1280 .bf16) (y : S96x8x1280.Idx) :
    ∃ pc ∈ ([⟨rY, p0⟩] : List (View.Piece (Elt F) S96x8x1280 .bf16)), y ∈ pc.1.set :=
  View.cover_of_tiled [⟨rY, p0⟩] S96x8x1280.size (by rfl) y
theorem coverS (p0 : Vec F S1 .f32) (y : S1.Idx) :
    ∃ pc ∈ ([⟨rS, p0⟩] : List (View.Piece (Elt F) S1 .f32)), y ∈ pc.1.set :=
  View.cover_of_tiled [⟨rS, p0⟩] S1.size (by rfl) y

/-! ## The body's triples -/

set_option maxHeartbeats 1000000 in
/-- At the first grid point the body stores the codes, the scale and the point's block of the product. -/
theorem runA (c : Dev nD) (i : grid0.Coords) (arg1 : Memref sig .tc .smem S1 .f32) (harg1 : arg1.IsWhole) (arg2 : Memref sig .tc .vmem S3x256x6784 .bf16) (harg2 : arg2.IsWhole) (arg3 : Memref sig .tc .vmem S6784x1280 .fp8e4m3) (harg3 : arg3.IsWhole) (arg4 : Memref sig .tc .vmem S8960 .f32) (harg4 : arg4.IsWhole) (arg5 : Memref sig .tc .vmem S96x8x1280 .bf16) (harg5 : arg5.IsWhole) (arg6 : Memref sig .tc .vmem S3x256x6784 .fp8e4m3) (harg6 : arg6.IsWhole) (arg7 : Memref sig .tc .smem S1 .f32) (harg7 : arg7.IsWhole) (hc0 : cond0_0 i)
    (x0 : Vec F S1 .f32) (x1 : Vec F S3x256x6784 .bf16) (x2 : Vec F S6784x1280 .fp8e4m3) (x3 : Vec F S8960 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay2 (entry x0) (codesOf (entry x0) x1) x2 (scaleBlock i x3)) ∗ owns (c : Thread nD τ) arg6 fullShare (codesOf (entry x0) x1) ∗ owns (c : Thread nD τ) arg7 fullShare x0) -∗ K ⟨⟩))
          ⊢ wp frame (wpE (defs₀ (F := F)) Variants.none c none) E (cc0__linear_kernel i arg1 harg1 arg2 harg2 arg3 harg3 arg4 harg4 arg5 harg5 arg6 harg6 arg7 harg7) K := by
    intro E K
    simp only [cc0__linear_kernel_eq_skeleton]; unfold cc0__linear_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec (disch := first | sl_exact hc0)
    sl_step
    have hr : runA.sl.r c arg1 harg1 x0 = entry x0 := by
      unfold runA.sl.r
      rw [View.readAt_eq_ld, hf0]
      exact eq_entry x0 _
    have hx : View.readAt (Elt F) arg2.view rX.toLoadRect (harg2.unread x1) = x1 := by
      rw [View.readAt_eq_ld, hf1, View.ld_unit_zero hz3]
    have hw : View.readAt (Elt F) arg3.view (Rect.unit (s := S6784x1280) ![0, 0] S6784x1280.size inb_S6784x1280_S6784x1280_0_0).toLoadRect (harg3.unread x2) = x2 := by
      rw [View.readAt_eq_ld, hf2, View.ld_unit_zero hz2]
    have hs : View.readAt (Elt F) arg4.view (Rect.unit (s := S8960) (k0_off1 i) S1280.size (k0_off1_inb i)).toLoadRect (harg4.unread x3) = scaleBlock i x3 := by
      rw [View.readAt_eq_ld, hf3]
    have hL : runA.sl.H5_1 c arg1 harg1 arg2 harg2 x0 x1 = [⟨rX, codesOf (entry x0) x1⟩] := by
      rw [← hr, ← codesOf_eq]
      conv_rhs => rw [← hx]
      rfl
    have hv4 : runA.sl.v4 c arg1 harg1 arg2 harg2 arg6 x0 x1 = codesOf (entry x0) x1 := by
      unfold runA.sl.v4
      rw [hL]
      exact View.readCov_cons_toLoadRect _ _ _ _
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr
      swap; · iexact H4
      ipureintro
      refine (View.read_writes_eq_canon _ _ _ (coverY _)).trans ?_
      rw [View.canon_unit_zero hz3, hr, hv4]
      exact congrArg₂ (k0_pay2 _ _) hw hs
    isplitl [H5]
    · iexists _; isplitr
      swap; · iexact H5
      ipureintro
      rw [hL]
      refine (View.read_writes_eq_canon _ _ _ (coverX _)).trans ?_
      rw [View.canon_unit_zero hz3]
    iexists _; isplitr
    swap; · iexact H6
    ipureintro
    refine (View.read_writes_eq_canon _ _ _ (coverS _)).trans ?_
    rw [View.canon_unit_zero hz1]
    funext j
    rw [hr]
    exact (eq_entry x0 j).symm

set_option maxHeartbeats 1000000 in
/-- At a later grid point the body stores the point's block of the product, from the codes it finds. -/
theorem runB (c : Dev nD) (i : grid0.Coords) (arg1 : Memref sig .tc .smem S1 .f32) (harg1 : arg1.IsWhole) (arg2 : Memref sig .tc .vmem S3x256x6784 .bf16) (harg2 : arg2.IsWhole) (arg3 : Memref sig .tc .vmem S6784x1280 .fp8e4m3) (harg3 : arg3.IsWhole) (arg4 : Memref sig .tc .vmem S8960 .f32) (harg4 : arg4.IsWhole) (arg5 : Memref sig .tc .vmem S96x8x1280 .bf16) (harg5 : arg5.IsWhole) (arg6 : Memref sig .tc .vmem S3x256x6784 .fp8e4m3) (harg6 : arg6.IsWhole) (arg7 : Memref sig .tc .smem S1 .f32) (harg7 : arg7.IsWhole) (hc0 : ¬cond0_0 i)
    (x0 : Vec F S1 .f32) (x1 : Vec F S3x256x6784 .bf16) (x2 : Vec F S6784x1280 .fp8e4m3) (x3 : Vec F S8960 .f32)  (x5 : Vec F S3x256x6784 .fp8e4m3) (x6 : Vec F S1 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare x5 ∗ owns (c : Thread nD τ) arg7 fullShare x6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay2 (entry x0) x5 x2 (scaleBlock i x3)) ∗ owns (c : Thread nD τ) arg6 fullShare x5 ∗ owns (c : Thread nD τ) arg7 fullShare x6) -∗ K ⟨⟩))
          ⊢ wp frame (wpE (defs₀ (F := F)) Variants.none c none) E (cc0__linear_kernel i arg1 harg1 arg2 harg2 arg3 harg3 arg4 harg4 arg5 harg5 arg6 harg6 arg7 harg7) K := by
    intro E K
    simp only [cc0__linear_kernel_eq_skeleton]; unfold cc0__linear_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3
    obtain rfl := harg6.eq_unread hf5
    sl_exec (disch := first | sl_exact hc0)
    sl_step
    have hr : runB.sl.r c arg1 harg1 x0 = entry x0 := by
      unfold runB.sl.r
      rw [View.readAt_eq_ld, hf0]
      exact eq_entry x0 _
    have hx : View.readAt (Elt F) arg6.view rX.toLoadRect (harg6.unread x5) = x5 := by
      rw [View.readAt_eq_ld, hf5, View.ld_unit_zero hz3]
    have hw : View.readAt (Elt F) arg3.view (Rect.unit (s := S6784x1280) ![0, 0] S6784x1280.size inb_S6784x1280_S6784x1280_0_0).toLoadRect (harg3.unread x2) = x2 := by
      rw [View.readAt_eq_ld, hf2, View.ld_unit_zero hz2]
    have hs : View.readAt (Elt F) arg4.view (Rect.unit (s := S8960) (k0_off1 i) S1280.size (k0_off1_inb i)).toLoadRect (harg4.unread x3) = scaleBlock i x3 := by
      rw [View.readAt_eq_ld, hf3]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr
      swap; · iexact H4
      ipureintro
      refine (View.read_writes_eq_canon _ _ _ (coverY _)).trans ?_
      rw [View.canon_unit_zero hz3, hr, hx]
      exact congrArg₂ (k0_pay2 _ _) hw hs
    isplitl [H5]
    · iexists _; isplitr
      swap; · iexact H5
      ipureintro; exact hf5
    iexists _; isplitr
    swap; · iexact H6
    ipureintro; exact hf6

end Cert.Kernel.Run

end
-- ==== Proof.MachineRun.lean ====
/- The kernel's run: the proof data of its one pipeline, the body obligation at every grid point, and the arrays the run
   ends with. -/
module

public import proofs.«01_k».proof.Proof.MachineBody

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid points -/

/-- The quantising branch is taken at the first point only. -/
theorem hcond0_0 : ∀ t : Fin cfg0.N, cond0_0 (grid0.coords t) ↔ t.val % 7 = 0 :=
  (fun t => by
    have ht : t.val < 7 := Nat.lt_of_lt_of_eq t.isLt N_0
    have e0 : (grid0.coords t 0).val = t.val / 1 % 7 := Pipeline.Grid.coords_val t 0 (by decide) rfl
    simp only [cond0_0, k0_cond1, e0]
    word_cmp
   : ∀ t : Fin grid0.N, cond0_0 (grid0.coords t) ↔ t.val % 7 = 0)

theorem idle5 (t : Fin cfg0.N) : cfg0.idle 5 (grid0.coords t) = !(k0_cond1 (grid0.coords t) == 1#1) := rfl
theorem idle6 (t : Fin cfg0.N) : cfg0.idle 6 (grid0.coords t) = !(k0_cond1 (grid0.coords t) == 1#1) := rfl

theorem live5 (t : Fin cfg0.N) (h : t.val % 7 = 0) : cfg0.idle 5 (grid0.coords t) = false := by
  rw [idle5, show k0_cond1 (grid0.coords t) = 1#1 from (hcond0_0 t).mpr h]; rfl
theorem live6 (t : Fin cfg0.N) (h : t.val % 7 = 0) : cfg0.idle 6 (grid0.coords t) = false := live5 t h
theorem dead5 (t : Fin cfg0.N) (h : ¬t.val % 7 = 0) : cfg0.idle 5 (grid0.coords t) = true := by
  rw [idle5, show (k0_cond1 (grid0.coords t) == 1#1) = false from beq_eq_false_iff_ne.mpr fun e => h ((hcond0_0 t).mp e)]; rfl
theorem dead6 (t : Fin cfg0.N) (h : ¬t.val % 7 = 0) : cfg0.idle 6 (grid0.coords t) = true := dead5 t h

/-! ## The proof data -/

/-- The scale and the codes on core `c`, from the arrays as the region finds them: windows 0 and 1 have one block. -/
def scaleAt (c : Dev nD) (t : Fin cfg0.N) : Vec F S1 .f32 := iblk m c 0 t
def codesAt (c : Dev nD) (t : Fin cfg0.N) : Vec F S3x256x6784 .fp8e4m3 := codesOf (entry (iblk m c 0 t)) (iblk m c 1 t)

/-- Windows 0 and 1 are at the same block at every point. -/
theorem iblk0_const (c : Dev nD) (t t' : Fin cfg0.N) : iblk m c 0 t = iblk m c 0 t' := rfl
theorem iblk1_const (c : Dev nD) (t t' : Fin cfg0.N) : iblk m c 1 t = iblk m c 1 t' := rfl

/-- The block of the product that point `t` leaves. -/
def blockAt (c : Dev nD) (t : Fin cfg0.N) : Vec F S96x8x1280 .bf16 :=
  k0_pay2 (entry (iblk m c 0 t)) (codesAt m c t) (iblk m c 2 t) (scaleBlock (grid0.coords t) (iblk m c 3 t))

/-- The proof data of the one pipeline on core `c`: each input's buffer at its block, the outputs' at the point's block
    of the product, at the codes and at the scale. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blockAt m c t
    | ⟨5, _⟩ => codesAt m c t
    | ⟨6, _⟩ => scaleAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = blockAt m c t := by dsimp only [dats]
theorem after0_5 (c : Dev nD) (t : Fin cfg0.N) : (dats m 0 c).after 5 t = codesAt m c t := by dsimp only [dats]
theorem after0_6 (c : Dev nD) (t : Fin cfg0.N) : (dats m 0 c).after 6 t = scaleAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- After the first point the code buffer holds the codes, -/
theorem before0_5 (c : Dev nD) : ∀ (n : ℕ) (t : Fin cfg0.N), t.val = n + 1 → ∀ d, (dats m 0 c).before 5 t d = codesAt m c t := by
  intro n
  induction n with
  | zero =>
    intro t ht d
    have hN : t.val < 7 := lt_of_lt_of_eq t.isLt (show cfg0.N = 7 from N_0)
    rw [(dats m 0 c).before_of_pos 5 t (by omega) rfl, if_neg (by rw [flush0_5]; show ¬(t.val - 1) % 7 = 6; omega)]
    unfold Dat.left
    rw [live5 _ (by show (t.val - 1) % 7 = 0; omega)]
    show (dats m 0 c).after 5 _ = _
    rw [after0_5]; rfl
  | succ n ih =>
    intro t ht d
    have hN : t.val < 7 := lt_of_lt_of_eq t.isLt (show cfg0.N = 7 from N_0)
    rw [(dats m 0 c).before_of_pos 5 t (by omega) rfl, if_neg (by rw [flush0_5]; show ¬(t.val - 1) % 7 = 6; omega)]
    unfold Dat.left
    rw [dead5 _ (by show ¬(t.val - 1) % 7 = 0; omega)]
    show (dats m 0 c).before 5 _ d = _
    rw [ih _ (by show t.val - 1 = n + 1; omega)]; rfl

/-- and the scale's buffer the scale. -/
theorem before0_6 (c : Dev nD) : ∀ (n : ℕ) (t : Fin cfg0.N), t.val = n + 1 → ∀ d, (dats m 0 c).before 6 t d = scaleAt m c t := by
  intro n
  induction n with
  | zero =>
    intro t ht d
    have hN : t.val < 7 := lt_of_lt_of_eq t.isLt (show cfg0.N = 7 from N_0)
    rw [(dats m 0 c).before_of_pos 6 t (by omega) rfl, if_neg (by rw [flush0_6]; show ¬(t.val - 1) % 7 = 6; omega)]
    unfold Dat.left
    rw [live6 _ (by show (t.val - 1) % 7 = 0; omega)]
    show (dats m 0 c).after 6 _ = _
    rw [after0_6]; rfl
  | succ n ih =>
    intro t ht d
    have hN : t.val < 7 := lt_of_lt_of_eq t.isLt (show cfg0.N = 7 from N_0)
    rw [(dats m 0 c).before_of_pos 6 t (by omega) rfl, if_neg (by rw [flush0_6]; show ¬(t.val - 1) % 7 = 6; omega)]
    unfold Dat.left
    rw [dead6 _ (by show ¬(t.val - 1) % 7 = 0; omega)]
    show (dats m 0 c).before 6 _ d = _
    rw [ih _ (by show t.val - 1 = n + 1; omega)]; rfl

/-! ## The body obligation -/

abbrev ms0_0 (t : Fin cfg0.N) : Memref sig .tc .smem S1 .f32 := win0_0.stage (cfg0.slots t 0)
abbrev ms0_1 (t : Fin cfg0.N) : Memref sig .tc .vmem S3x256x6784 .bf16 := win0_1.stage (cfg0.slots t 1)
abbrev ms0_2 (t : Fin cfg0.N) : Memref sig .tc .vmem S6784x1280 .fp8e4m3 := win0_2.stage (cfg0.slots t 2)
abbrev ms0_3 (t : Fin cfg0.N) : Memref sig .tc .vmem S8960 .f32 := win0_3.stage (cfg0.slots t 3)
abbrev ms0_4 (t : Fin cfg0.N) : Memref sig .tc .vmem S96x8x1280 .bf16 := win0_4.stage (cfg0.slots t 4)
abbrev ms0_5 (t : Fin cfg0.N) : Memref sig .tc .vmem S3x256x6784 .fp8e4m3 := win0_5.stage (cfg0.slots t 5)
abbrev ms0_6 (t : Fin cfg0.N) : Memref sig .tc .smem S1 .f32 := win0_6.stage (cfg0.slots t 6)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves0 (c : Dev nD) (t : Fin cfg0.N) : (dats m 0 c).leavesExact 0 t = owns (c : Thread nD τ) (ms0_0 t) fullShare (iblk m c 0 t) := by
  show owns (c : Thread nD τ) (ms0_0 t) fullShare ((dats m 0 c).after 0 t) = _; rw [after0_0]
theorem leaves1 (c : Dev nD) (t : Fin cfg0.N) : (dats m 0 c).leavesExact 1 t = owns (c : Thread nD τ) (ms0_1 t) fullShare (iblk m c 1 t) := by
  show owns (c : Thread nD τ) (ms0_1 t) fullShare ((dats m 0 c).after 1 t) = _; rw [after0_1]
theorem leaves2 (c : Dev nD) (t : Fin cfg0.N) : (dats m 0 c).leavesExact 2 t = owns (c : Thread nD τ) (ms0_2 t) fullShare (iblk m c 2 t) := by
  show owns (c : Thread nD τ) (ms0_2 t) fullShare ((dats m 0 c).after 2 t) = _; rw [after0_2]
theorem leaves3 (c : Dev nD) (t : Fin cfg0.N) : (dats m 0 c).leavesExact 3 t = owns (c : Thread nD τ) (ms0_3 t) fullShare (iblk m c 3 t) := by
  show owns (c : Thread nD τ) (ms0_3 t) fullShare ((dats m 0 c).after 3 t) = _; rw [after0_3]
theorem leaves4 (c : Dev nD) (t : Fin cfg0.N) : (dats m 0 c).leavesExact 4 t = owns (c : Thread nD τ) (ms0_4 t) fullShare (blockAt m c t) := by
  show owns (c : Thread nD τ) (ms0_4 t) fullShare ((dats m 0 c).after 4 t) = _; rw [after0_4]

/-- The codes in their buffer are what the body has to leave there, at every point; -/
theorem leaves5 (c : Dev nD) (t : Fin cfg0.N) : owns (c : Thread nD τ) (ms0_5 t) fullShare (codesAt m c t) ⊢ (dats m 0 c).leavesExact 5 t := by
  by_cases h0 : t.val % 7 = 0
  · unfold Dat.leavesExact; rw [live5 t h0]
    show _ ⊢ owns (c : Thread nD τ) (ms0_5 t) fullShare ((dats m 0 c).after 5 t); rw [after0_5]
  · have hN : t.val < 7 := lt_of_lt_of_eq t.isLt (show cfg0.N = 7 from N_0)
    by_cases hf : (cfg0.win 5).flush t = true
    · unfold Dat.leavesExact; rw [dead5 t h0, hf]
      show _ ⊢ owns (c : Thread nD τ) (ms0_5 t) fullShare ((dats m 0 c).after 5 t); rw [after0_5]
    · rw [Dat.leavesExact_idle _ 5 t (dead5 t h0) (by simpa using hf)]
      iintro H
      iexists (codesAt m c t)
      rw [before0_5 m c (t.val - 1) t (by omega)]
      iexact H

/-- and so the scale in its. -/
theorem leaves6 (c : Dev nD) (t : Fin cfg0.N) : owns (c : Thread nD τ) (ms0_6 t) fullShare (scaleAt m c t) ⊢ (dats m 0 c).leavesExact 6 t := by
  by_cases h0 : t.val % 7 = 0
  · unfold Dat.leavesExact; rw [live6 t h0]
    show _ ⊢ owns (c : Thread nD τ) (ms0_6 t) fullShare ((dats m 0 c).after 6 t); rw [after0_6]
  · have hN : t.val < 7 := lt_of_lt_of_eq t.isLt (show cfg0.N = 7 from N_0)
    by_cases hf : (cfg0.win 6).flush t = true
    · unfold Dat.leavesExact; rw [dead6 t h0, hf]
      show _ ⊢ owns (c : Thread nD τ) (ms0_6 t) fullShare ((dats m 0 c).after 6 t); rw [after0_6]
    · rw [Dat.leavesExact_idle _ 6 t (dead6 t h0) (by simpa using hf)]
      iintro H
      iexists (scaleAt m c t)
      rw [before0_6 m c (t.val - 1) t (by omega)]
      iexact H

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  rw [leaves0, leaves1, leaves2, leaves3, leaves4]
  have hN : t.val < 7 := lt_of_lt_of_eq t.isLt (show cfg0.N = 7 from N_0)
  by_cases h0 : t.val % 7 = 0
  · iintro ⟨HΦ, Ho, ⟨%d0, H0⟩, ⟨%d1, H1⟩, ⟨%d2, H2⟩, ⟨%d3, H3⟩, ⟨%d4, H4⟩, ⟨%d5, H5⟩, ⟨%d6, H6⟩⟩
    iapply ((runA c (grid0.coords t) _ _ _ _ _ _ _ _ _ _ _ _ _ _ ((hcond0_0 t).mpr h0) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · iapply (leaves5 m c t); iexact H5
    iapply (leaves6 m c t); iexact H6
  · simp only [before0_5 m c (t.val - 1) t (by omega), before0_6 m c (t.val - 1) t (by omega)]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runB c (grid0.coords t) _ _ _ _ _ _ _ _ _ _ _ _ _ _ (fun h => h0 ((hcond0_0 t).mp h)) (iblk m c 0 t) (iblk m c 1 t) (iblk m c 2 t) (iblk m c 3 t) (codesAt m c t) (scaleAt m c t)) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · iapply (leaves5 m c t); iexact H5
    iapply (leaves6 m c t); iexact H6

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact sound_body m c t

/-! ## The run -/

set_option backward.isDefEq.respectTransparency.types false in
set_option maxHeartbeats 800000 in
/-- The launch: the arrays as the pipeline and the host line after it leave them, every semaphore counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel.Run

end
-- ==== Proof.Body.lean ====
/- The kernel body on its staging memrefs: what it leaves in each output, at the first grid point and at the others. -/
module

public import proofs.«01_k».proof.Proof.Gen.KernelIdeal.Frame
public import proofs.«01_k».proof.Proof.Gen.KernelIdeal.Skeleton
public import Idealize.ShloMosaic.Lib.Claim
public import Idealize.ShloMosaic.Lib.UnfoldOut
public import Idealize.ShloMosaic.Lib.Pipeline.Value
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body computes -/

/-- One step of the search for the exponent field of `|s|`: the bit joins the field found so far if the power of two
    with the joined field is not above `|s|`. -/
def step (s : F .f32) (b bit : BitVec 32) : BitVec 32 :=
  Scalar.select (Scalar.cmpf .oge (Scalar.absf s) (Scalar.ofBits .f32 (Scalar.shli (Scalar.addi b bit) 23#32))) (Scalar.addi b bit) b

/-- The exponent field's seven high bits, as the search finds them. -/
def high (s : F .f32) : BitVec 32 :=
  step s (step s (step s (step s (step s (step s (step s 0#32 128#32) 64#32) 32#32) 16#32) 8#32) 4#32) 2#32

/-- The whole exponent field. -/
def field (s : F .f32) : BitVec 32 := step s (high s) 1#32

/-- The power of two the codes are scaled by. -/
def invScale (s : F .f32) : F .f32 :=
  Scalar.ofBits .f32 (Scalar.shli
    (Scalar.select (Scalar.ori (Scalar.cmpi .eq (field s) 0#32) (Scalar.cmpi .eq (field s) 255#32)) 128#32 (Scalar.subi 254#32 (field s))) 23#32)

/-- The codes: `x` times the power of two, clipped and rounded to the eight-bit format. -/
def codesOf (s : F .f32) (x : Vec F S3x256x6784 .bf16) : FVec F S3x256x6784 .fp8e4m3 :=
  truncf .fp8e4m3 (minimumf (broadcast S3x256x6784 (Scalar.ofBits .f32 0x43E00000#32))
    (maximumf (broadcast S3x256x6784 (Scalar.ofBits .f32 0xC3E00000#32))
      (mulf (extf .f32 x bitsLt_bf16_f32) (broadcast S3x256x6784 (invScale s))))) bitsLt_fp8e4m3_f32

/-- The one entry of a scale array. -/
def entry (x0 : Vec F S1 .f32) : F .f32 := x0 (Shape.Idx.first (by decide))

/-- The block of column scales that grid point `i` reads. -/
abbrev scaleBlock (i : grid0.Coords) (x3 : Vec F S8960 .f32) : Vec F S1280 .f32 :=
  View.ld x3 (Rect.unit (s := S8960) (k0_off1 i) S1280.size (k0_off1_inb i))

theorem codesOf_eq (s : F .f32) (x : Vec F S3x256x6784 .bf16) :
    k0_pay1 (k0_pay3 x) (k0_pay4 s) (high s) (Scalar.addi (high s) 1#32) 23#32 = codesOf s x := rfl

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

theorem idx1 (i j : S1.Idx) : i = j := funext fun a => by
  have := (i a).isLt; have := (j a).isLt
  fin_cases a; apply Fin.ext; simp at *; omega

theorem eq_entry (x0 : Vec F S1 .f32) (j : S1.Idx) : x0 j = entry x0 := congrArg x0 (idx1 _ _)

abbrev cond0_0 (i : grid0.Coords) : Prop := k0_cond1 i = 1#1

abbrev rX : Rect S3x256x6784 := Rect.unit (s := S3x256x6784) ![0, 0, 0] S3x256x6784.size inb_S3x256x6784_S3x256x6784_0_0_0
abbrev rY : Rect S96x8x1280 := Rect.unit (s := S96x8x1280) ![0, 0, 0] S96x8x1280.size inb_S96x8x1280_S96x8x1280_0_0_0
abbrev rS : Rect S1 := Rect.unit (s := S1) ![0] S1.size inb_S1_S1_0

theorem coverX (p0 : Vec F S3x256x6784 .fp8e4m3) (y : S3x256x6784.Idx) :
    ∃ pc ∈ ([⟨rX, p0⟩] : List (View.Piece (Elt F) S3x256x6784 .fp8e4m3)), y ∈ pc.1.set :=
  View.cover_of_tiled [⟨rX, p0⟩] S3x256x6784.size (by rfl) y
theorem coverY (p0 : Vec F S96x8x1280 .bf16) (y : S96x8x1280.Idx) :
    ∃ pc ∈ ([⟨rY, p0⟩] : List (View.Piece (Elt F) S96x8x1280 .bf16)), y ∈ pc.1.set :=
  View.cover_of_tiled [⟨rY, p0⟩] S96x8x1280.size (by rfl) y
theorem coverS (p0 : Vec F S1 .f32) (y : S1.Idx) :
    ∃ pc ∈ ([⟨rS, p0⟩] : List (View.Piece (Elt F) S1 .f32)), y ∈ pc.1.set :=
  View.cover_of_tiled [⟨rS, p0⟩] S1.size (by rfl) y

/-! ## The body's triples -/

set_option maxHeartbeats 1000000 in
/-- At the first grid point the body stores the codes, the scale and the point's block of the product. -/
theorem runA (c : Dev nD) (i : grid0.Coords) (arg1 : Memref sig .tc .smem S1 .f32) (harg1 : arg1.IsWhole) (arg2 : Memref sig .tc .vmem S3x256x6784 .bf16) (harg2 : arg2.IsWhole) (arg3 : Memref sig .tc .vmem S6784x1280 .fp8e4m3) (harg3 : arg3.IsWhole) (arg4 : Memref sig .tc .vmem S8960 .f32) (harg4 : arg4.IsWhole) (arg5 : Memref sig .tc .vmem S96x8x1280 .bf16) (harg5 : arg5.IsWhole) (arg6 : Memref sig .tc .vmem S3x256x6784 .fp8e4m3) (harg6 : arg6.IsWhole) (arg7 : Memref sig .tc .smem S1 .f32) (harg7 : arg7.IsWhole) (hc0 : cond0_0 i)
    (x0 : Vec F S1 .f32) (x1 : Vec F S3x256x6784 .bf16) (x2 : Vec F S6784x1280 .fp8e4m3) (x3 : Vec F S8960 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay2 (entry x0) (codesOf (entry x0) x1) x2 (scaleBlock i x3)) ∗ owns (c : Thread nD τ) arg6 fullShare (codesOf (entry x0) x1) ∗ owns (c : Thread nD τ) arg7 fullShare x0) -∗ K ⟨⟩))
          ⊢ wp frame (wpE (defs₀ (F := F)) Variants.none c none) E (cc0__linear_kernel i arg1 harg1 arg2 harg2 arg3 harg3 arg4 harg4 arg5 harg5 arg6 harg6 arg7 harg7) K := by
    intro E K
    simp only [cc0__linear_kernel_eq_skeleton]; unfold cc0__linear_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec (disch := first | sl_exact hc0)
    sl_step
    have hr : runA.sl.r c arg1 harg1 x0 = entry x0 := by
      unfold runA.sl.r
      rw [View.readAt_eq_ld, hf0]
      exact eq_entry x0 _
    have hx : View.readAt (Elt F) arg2.view rX.toLoadRect (harg2.unread x1) = x1 := by
      rw [View.readAt_eq_ld, hf1, View.ld_unit_zero hz3]
    have hw : View.readAt (Elt F) arg3.view (Rect.unit (s := S6784x1280) ![0, 0] S6784x1280.size inb_S6784x1280_S6784x1280_0_0).toLoadRect (harg3.unread x2) = x2 := by
      rw [View.readAt_eq_ld, hf2, View.ld_unit_zero hz2]
    have hs : View.readAt (Elt F) arg4.view (Rect.unit (s := S8960) (k0_off1 i) S1280.size (k0_off1_inb i)).toLoadRect (harg4.unread x3) = scaleBlock i x3 := by
      rw [View.readAt_eq_ld, hf3]
    have hL : runA.sl.H5_1 c arg1 harg1 arg2 harg2 x0 x1 = [⟨rX, codesOf (entry x0) x1⟩] := by
      rw [← hr, ← codesOf_eq]
      conv_rhs => rw [← hx]
      rfl
    have hv4 : runA.sl.v4 c arg1 harg1 arg2 harg2 arg6 x0 x1 = codesOf (entry x0) x1 := by
      unfold runA.sl.v4
      rw [hL]
      exact View.readCov_cons_toLoadRect _ _ _ _
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr
      swap; · iexact H4
      ipureintro
      refine (View.read_writes_eq_canon _ _ _ (coverY _)).trans ?_
      rw [View.canon_unit_zero hz3, hr, hv4]
      exact congrArg₂ (k0_pay2 _ _) hw hs
    isplitl [H5]
    · iexists _; isplitr
      swap; · iexact H5
      ipureintro
      rw [hL]
      refine (View.read_writes_eq_canon _ _ _ (coverX _)).trans ?_
      rw [View.canon_unit_zero hz3]
    iexists _; isplitr
    swap; · iexact H6
    ipureintro
    refine (View.read_writes_eq_canon _ _ _ (coverS _)).trans ?_
    rw [View.canon_unit_zero hz1]
    funext j
    rw [hr]
    exact (eq_entry x0 j).symm

set_option maxHeartbeats 1000000 in
/-- At a later grid point the body stores the point's block of the product, from the codes it finds. -/
theorem runB (c : Dev nD) (i : grid0.Coords) (arg1 : Memref sig .tc .smem S1 .f32) (harg1 : arg1.IsWhole) (arg2 : Memref sig .tc .vmem S3x256x6784 .bf16) (harg2 : arg2.IsWhole) (arg3 : Memref sig .tc .vmem S6784x1280 .fp8e4m3) (harg3 : arg3.IsWhole) (arg4 : Memref sig .tc .vmem S8960 .f32) (harg4 : arg4.IsWhole) (arg5 : Memref sig .tc .vmem S96x8x1280 .bf16) (harg5 : arg5.IsWhole) (arg6 : Memref sig .tc .vmem S3x256x6784 .fp8e4m3) (harg6 : arg6.IsWhole) (arg7 : Memref sig .tc .smem S1 .f32) (harg7 : arg7.IsWhole) (hc0 : ¬cond0_0 i)
    (x0 : Vec F S1 .f32) (x1 : Vec F S3x256x6784 .bf16) (x2 : Vec F S6784x1280 .fp8e4m3) (x3 : Vec F S8960 .f32)  (x5 : Vec F S3x256x6784 .fp8e4m3) (x6 : Vec F S1 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare x5 ∗ owns (c : Thread nD τ) arg7 fullShare x6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay2 (entry x0) x5 x2 (scaleBlock i x3)) ∗ owns (c : Thread nD τ) arg6 fullShare x5 ∗ owns (c : Thread nD τ) arg7 fullShare x6) -∗ K ⟨⟩))
          ⊢ wp frame (wpE (defs₀ (F := F)) Variants.none c none) E (cc0__linear_kernel i arg1 harg1 arg2 harg2 arg3 harg3 arg4 harg4 arg5 harg5 arg6 harg6 arg7 harg7) K := by
    intro E K
    simp only [cc0__linear_kernel_eq_skeleton]; unfold cc0__linear_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3
    obtain rfl := harg6.eq_unread hf5
    sl_exec (disch := first | sl_exact hc0)
    sl_step
    have hr : runB.sl.r c arg1 harg1 x0 = entry x0 := by
      unfold runB.sl.r
      rw [View.readAt_eq_ld, hf0]
      exact eq_entry x0 _
    have hx : View.readAt (Elt F) arg6.view rX.toLoadRect (harg6.unread x5) = x5 := by
      rw [View.readAt_eq_ld, hf5, View.ld_unit_zero hz3]
    have hw : View.readAt (Elt F) arg3.view (Rect.unit (s := S6784x1280) ![0, 0] S6784x1280.size inb_S6784x1280_S6784x1280_0_0).toLoadRect (harg3.unread x2) = x2 := by
      rw [View.readAt_eq_ld, hf2, View.ld_unit_zero hz2]
    have hs : View.readAt (Elt F) arg4.view (Rect.unit (s := S8960) (k0_off1 i) S1280.size (k0_off1_inb i)).toLoadRect (harg4.unread x3) = scaleBlock i x3 := by
      rw [View.readAt_eq_ld, hf3]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr
      swap; · iexact H4
      ipureintro
      refine (View.read_writes_eq_canon _ _ _ (coverY _)).trans ?_
      rw [View.canon_unit_zero hz3, hr, hx]
      exact congrArg₂ (k0_pay2 _ _) hw hs
    isplitl [H5]
    · iexists _; isplitr
      swap; · iexact H5
      ipureintro; exact hf5
    iexists _; isplitr
    swap; · iexact H6
    ipureintro; exact hf6

end Cert.KernelIdeal.Run

end
-- ==== Proof.Run.lean ====
/- The kernel's run: the proof data of its one pipeline, the body obligation at every grid point, and the arrays the run
   ends with. -/
module

public import proofs.«01_k».proof.Proof.Body

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid points -/

/-- The quantising branch is taken at the first point only. -/
theorem hcond0_0 : ∀ t : Fin cfg0.N, cond0_0 (grid0.coords t) ↔ t.val % 7 = 0 :=
  (fun t => by
    have ht : t.val < 7 := Nat.lt_of_lt_of_eq t.isLt N_0
    have e0 : (grid0.coords t 0).val = t.val / 1 % 7 := Pipeline.Grid.coords_val t 0 (by decide) rfl
    simp only [cond0_0, k0_cond1, e0]
    word_cmp
   : ∀ t : Fin grid0.N, cond0_0 (grid0.coords t) ↔ t.val % 7 = 0)

theorem idle5 (t : Fin cfg0.N) : cfg0.idle 5 (grid0.coords t) = !(k0_cond1 (grid0.coords t) == 1#1) := rfl
theorem idle6 (t : Fin cfg0.N) : cfg0.idle 6 (grid0.coords t) = !(k0_cond1 (grid0.coords t) == 1#1) := rfl

theorem live5 (t : Fin cfg0.N) (h : t.val % 7 = 0) : cfg0.idle 5 (grid0.coords t) = false := by
  rw [idle5, show k0_cond1 (grid0.coords t) = 1#1 from (hcond0_0 t).mpr h]; rfl
theorem live6 (t : Fin cfg0.N) (h : t.val % 7 = 0) : cfg0.idle 6 (grid0.coords t) = false := live5 t h
theorem dead5 (t : Fin cfg0.N) (h : ¬t.val % 7 = 0) : cfg0.idle 5 (grid0.coords t) = true := by
  rw [idle5, show (k0_cond1 (grid0.coords t) == 1#1) = false from beq_eq_false_iff_ne.mpr fun e => h ((hcond0_0 t).mp e)]; rfl
theorem dead6 (t : Fin cfg0.N) (h : ¬t.val % 7 = 0) : cfg0.idle 6 (grid0.coords t) = true := dead5 t h

/-! ## The proof data -/

/-- The scale and the codes on core `c`, from the arrays as the region finds them: windows 0 and 1 have one block. -/
def scaleAt (c : Dev nD) (t : Fin cfg0.N) : Vec F S1 .f32 := iblk m c 0 t
def codesAt (c : Dev nD) (t : Fin cfg0.N) : Vec F S3x256x6784 .fp8e4m3 := codesOf (entry (iblk m c 0 t)) (iblk m c 1 t)

/-- Windows 0 and 1 are at the same block at every point. -/
theorem iblk0_const (c : Dev nD) (t t' : Fin cfg0.N) : iblk m c 0 t = iblk m c 0 t' := rfl
theorem iblk1_const (c : Dev nD) (t t' : Fin cfg0.N) : iblk m c 1 t = iblk m c 1 t' := rfl

/-- The block of the product that point `t` leaves. -/
def blockAt (c : Dev nD) (t : Fin cfg0.N) : Vec F S96x8x1280 .bf16 :=
  k0_pay2 (entry (iblk m c 0 t)) (codesAt m c t) (iblk m c 2 t) (scaleBlock (grid0.coords t) (iblk m c 3 t))

/-- The proof data of the one pipeline on core `c`: each input's buffer at its block, the outputs' at the point's block
    of the product, at the codes and at the scale. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blockAt m c t
    | ⟨5, _⟩ => codesAt m c t
    | ⟨6, _⟩ => scaleAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = blockAt m c t := by dsimp only [dats]
theorem after0_5 (c : Dev nD) (t : Fin cfg0.N) : (dats m 0 c).after 5 t = codesAt m c t := by dsimp only [dats]
theorem after0_6 (c : Dev nD) (t : Fin cfg0.N) : (dats m 0 c).after 6 t = scaleAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- After the first point the code buffer holds the codes, -/
theorem before0_5 (c : Dev nD) : ∀ (n : ℕ) (t : Fin cfg0.N), t.val = n + 1 → ∀ d, (dats m 0 c).before 5 t d = codesAt m c t := by
  intro n
  induction n with
  | zero =>
    intro t ht d
    have hN : t.val < 7 := lt_of_lt_of_eq t.isLt (show cfg0.N = 7 from N_0)
    rw [(dats m 0 c).before_of_pos 5 t (by omega) rfl, if_neg (by rw [flush0_5]; show ¬(t.val - 1) % 7 = 6; omega)]
    unfold Dat.left
    rw [live5 _ (by show (t.val - 1) % 7 = 0; omega)]
    show (dats m 0 c).after 5 _ = _
    rw [after0_5]; rfl
  | succ n ih =>
    intro t ht d
    have hN : t.val < 7 := lt_of_lt_of_eq t.isLt (show cfg0.N = 7 from N_0)
    rw [(dats m 0 c).before_of_pos 5 t (by omega) rfl, if_neg (by rw [flush0_5]; show ¬(t.val - 1) % 7 = 6; omega)]
    unfold Dat.left
    rw [dead5 _ (by show ¬(t.val - 1) % 7 = 0; omega)]
    show (dats m 0 c).before 5 _ d = _
    rw [ih _ (by show t.val - 1 = n + 1; omega)]; rfl

/-- and the scale's buffer the scale. -/
theorem before0_6 (c : Dev nD) : ∀ (n : ℕ) (t : Fin cfg0.N), t.val = n + 1 → ∀ d, (dats m 0 c).before 6 t d = scaleAt m c t := by
  intro n
  induction n with
  | zero =>
    intro t ht d
    have hN : t.val < 7 := lt_of_lt_of_eq t.isLt (show cfg0.N = 7 from N_0)
    rw [(dats m 0 c).before_of_pos 6 t (by omega) rfl, if_neg (by rw [flush0_6]; show ¬(t.val - 1) % 7 = 6; omega)]
    unfold Dat.left
    rw [live6 _ (by show (t.val - 1) % 7 = 0; omega)]
    show (dats m 0 c).after 6 _ = _
    rw [after0_6]; rfl
  | succ n ih =>
    intro t ht d
    have hN : t.val < 7 := lt_of_lt_of_eq t.isLt (show cfg0.N = 7 from N_0)
    rw [(dats m 0 c).before_of_pos 6 t (by omega) rfl, if_neg (by rw [flush0_6]; show ¬(t.val - 1) % 7 = 6; omega)]
    unfold Dat.left
    rw [dead6 _ (by show ¬(t.val - 1) % 7 = 0; omega)]
    show (dats m 0 c).before 6 _ d = _
    rw [ih _ (by show t.val - 1 = n + 1; omega)]; rfl

/-! ## The body obligation -/

abbrev ms0_0 (t : Fin cfg0.N) : Memref sig .tc .smem S1 .f32 := win0_0.stage (cfg0.slots t 0)
abbrev ms0_1 (t : Fin cfg0.N) : Memref sig .tc .vmem S3x256x6784 .bf16 := win0_1.stage (cfg0.slots t 1)
abbrev ms0_2 (t : Fin cfg0.N) : Memref sig .tc .vmem S6784x1280 .fp8e4m3 := win0_2.stage (cfg0.slots t 2)
abbrev ms0_3 (t : Fin cfg0.N) : Memref sig .tc .vmem S8960 .f32 := win0_3.stage (cfg0.slots t 3)
abbrev ms0_4 (t : Fin cfg0.N) : Memref sig .tc .vmem S96x8x1280 .bf16 := win0_4.stage (cfg0.slots t 4)
abbrev ms0_5 (t : Fin cfg0.N) : Memref sig .tc .vmem S3x256x6784 .fp8e4m3 := win0_5.stage (cfg0.slots t 5)
abbrev ms0_6 (t : Fin cfg0.N) : Memref sig .tc .smem S1 .f32 := win0_6.stage (cfg0.slots t 6)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves0 (c : Dev nD) (t : Fin cfg0.N) : (dats m 0 c).leavesExact 0 t = owns (c : Thread nD τ) (ms0_0 t) fullShare (iblk m c 0 t) := by
  show owns (c : Thread nD τ) (ms0_0 t) fullShare ((dats m 0 c).after 0 t) = _; rw [after0_0]
theorem leaves1 (c : Dev nD) (t : Fin cfg0.N) : (dats m 0 c).leavesExact 1 t = owns (c : Thread nD τ) (ms0_1 t) fullShare (iblk m c 1 t) := by
  show owns (c : Thread nD τ) (ms0_1 t) fullShare ((dats m 0 c).after 1 t) = _; rw [after0_1]
theorem leaves2 (c : Dev nD) (t : Fin cfg0.N) : (dats m 0 c).leavesExact 2 t = owns (c : Thread nD τ) (ms0_2 t) fullShare (iblk m c 2 t) := by
  show owns (c : Thread nD τ) (ms0_2 t) fullShare ((dats m 0 c).after 2 t) = _; rw [after0_2]
theorem leaves3 (c : Dev nD) (t : Fin cfg0.N) : (dats m 0 c).leavesExact 3 t = owns (c : Thread nD τ) (ms0_3 t) fullShare (iblk m c 3 t) := by
  show owns (c : Thread nD τ) (ms0_3 t) fullShare ((dats m 0 c).after 3 t) = _; rw [after0_3]
theorem leaves4 (c : Dev nD) (t : Fin cfg0.N) : (dats m 0 c).leavesExact 4 t = owns (c : Thread nD τ) (ms0_4 t) fullShare (blockAt m c t) := by
  show owns (c : Thread nD τ) (ms0_4 t) fullShare ((dats m 0 c).after 4 t) = _; rw [after0_4]

/-- The codes in their buffer are what the body has to leave there, at every point; -/
theorem leaves5 (c : Dev nD) (t : Fin cfg0.N) : owns (c : Thread nD τ) (ms0_5 t) fullShare (codesAt m c t) ⊢ (dats m 0 c).leavesExact 5 t := by
  by_cases h0 : t.val % 7 = 0
  · unfold Dat.leavesExact; rw [live5 t h0]
    show _ ⊢ owns (c : Thread nD τ) (ms0_5 t) fullShare ((dats m 0 c).after 5 t); rw [after0_5]
  · have hN : t.val < 7 := lt_of_lt_of_eq t.isLt (show cfg0.N = 7 from N_0)
    by_cases hf : (cfg0.win 5).flush t = true
    · unfold Dat.leavesExact; rw [dead5 t h0, hf]
      show _ ⊢ owns (c : Thread nD τ) (ms0_5 t) fullShare ((dats m 0 c).after 5 t); rw [after0_5]
    · rw [Dat.leavesExact_idle _ 5 t (dead5 t h0) (by simpa using hf)]
      iintro H
      iexists (codesAt m c t)
      rw [before0_5 m c (t.val - 1) t (by omega)]
      iexact H

/-- and so the scale in its. -/
theorem leaves6 (c : Dev nD) (t : Fin cfg0.N) : owns (c : Thread nD τ) (ms0_6 t) fullShare (scaleAt m c t) ⊢ (dats m 0 c).leavesExact 6 t := by
  by_cases h0 : t.val % 7 = 0
  · unfold Dat.leavesExact; rw [live6 t h0]
    show _ ⊢ owns (c : Thread nD τ) (ms0_6 t) fullShare ((dats m 0 c).after 6 t); rw [after0_6]
  · have hN : t.val < 7 := lt_of_lt_of_eq t.isLt (show cfg0.N = 7 from N_0)
    by_cases hf : (cfg0.win 6).flush t = true
    · unfold Dat.leavesExact; rw [dead6 t h0, hf]
      show _ ⊢ owns (c : Thread nD τ) (ms0_6 t) fullShare ((dats m 0 c).after 6 t); rw [after0_6]
    · rw [Dat.leavesExact_idle _ 6 t (dead6 t h0) (by simpa using hf)]
      iintro H
      iexists (scaleAt m c t)
      rw [before0_6 m c (t.val - 1) t (by omega)]
      iexact H

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  rw [leaves0, leaves1, leaves2, leaves3, leaves4]
  have hN : t.val < 7 := lt_of_lt_of_eq t.isLt (show cfg0.N = 7 from N_0)
  by_cases h0 : t.val % 7 = 0
  · iintro ⟨HΦ, Ho, ⟨%d0, H0⟩, ⟨%d1, H1⟩, ⟨%d2, H2⟩, ⟨%d3, H3⟩, ⟨%d4, H4⟩, ⟨%d5, H5⟩, ⟨%d6, H6⟩⟩
    iapply ((runA c (grid0.coords t) _ _ _ _ _ _ _ _ _ _ _ _ _ _ ((hcond0_0 t).mpr h0) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · iapply (leaves5 m c t); iexact H5
    iapply (leaves6 m c t); iexact H6
  · simp only [before0_5 m c (t.val - 1) t (by omega), before0_6 m c (t.val - 1) t (by omega)]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runB c (grid0.coords t) _ _ _ _ _ _ _ _ _ _ _ _ _ _ (fun h => h0 ((hcond0_0 t).mp h)) (iblk m c 0 t) (iblk m c 1 t) (iblk m c 2 t) (iblk m c 3 t) (codesAt m c t) (scaleAt m c t)) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · iapply (leaves5 m c t); iexact H5
    iapply (leaves6 m c t); iexact H6

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact sound_body m c t

/-! ## The run -/

set_option backward.isDefEq.respectTransparency.types false in
set_option maxHeartbeats 800000 in
/-- The launch: the arrays as the pipeline and the host line after it leave them, every semaphore counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Run

end
-- ==== Proof.KernelValue.lean ====
/- What the kernel's results hold after the run, as functions of the argument arrays. -/
module

public import proofs.«01_k».proof.Proof.Run
public import Idealize.ShloMosaic.Lib.Pipeline.ValueKit
public import Idealize.ShloMosaic.Lib.ValueIdx

@[expose] public section

set_option maxRecDepth 16384

noncomputable section

namespace Cert.KernelIdeal.Run

open Cert.KernelIdeal Cert.KernelIdeal.Gen
open Idealize.ShloMosaic Idealize.ShloMosaic.TcCoe Idealize.ShloMosaic.Tactic Idealize.ShloMosaic.ValueIdx
open Idealize.ShloMosaic.Pipeline (Dat Cfg Window)
open Idealize.SL Idealize.SL.Sem

variable {F : FTy → Type} [FloatOps F]
variable (m : (ℓ : Loc nD τ sig) → Buf (Elt F) ℓ) (ρ : Dev nD → PrngReg)

/-! ## The blocks read -/

/-- Every window's block index at a grid point. -/
theorem idxY : ∀ t : Fin cfg0.N, win0_0.index t = ![0] ∧ win0_1.index t = ![0, 0, 0] ∧ win0_2.index t = ![0, t.val]
    ∧ win0_3.index t = ![0] ∧ win0_4.index t = ![0, 0, t.val] :=
  (by decide +kernel : ∀ t : Fin grid0.N, _)

theorem iblk0_eq (c : Dev nD) (t : Fin cfg0.N) : iblk m c 0 t = m ((c : Thread nD τ).loc main_arg1) := by
  blk_ext! [iblk, V, idxY t]

theorem iblk1_eq (c : Dev nD) (t : Fin cfg0.N) : iblk m c 1 t = m ((c : Thread nD τ).loc main_arg0) := by
  blk_ext! [iblk, V, idxY t]

theorem iblk3_eq (c : Dev nD) (t : Fin cfg0.N) : iblk m c 3 t = m ((c : Thread nD τ).loc main_arg3) := by
  blk_ext! [iblk, V, idxY t]

/-- The column block `t` of the weights. -/
def weightBlock (w : Vec F S6784x8960 .fp8e4m3) (t : Fin 7) : Vec F S6784x1280 .fp8e4m3 := fun j =>
  w (ValueIdx.ix2 (j 0) ⟨t.val * 1280 + (j 1).val, by have := (j 1).isLt; have := t.isLt; simp at *; omega⟩)

/-- The column block `t` of the column scales. -/
def columnScales (ws : Vec F S8960 .f32) (t : Fin 7) : Vec F S1280 .f32 := fun j =>
  ws (ValueIdx.ix1 ⟨t.val * 1280 + (j 0).val, by have := (j 0).isLt; have := t.isLt; simp at *; omega⟩)

theorem iblk2_eq (c : Dev nD) (t : Fin cfg0.N) :
    iblk m c 2 t = weightBlock (m ((c : Thread nD τ).loc main_arg2)) ⟨t.val, Nat.lt_of_lt_of_eq t.isLt N_0⟩ := by
  blk_ext! [iblk, V, weightBlock, idxY t]

theorem off1_eq : ∀ t : Fin cfg0.N, k0_off1 (grid0.coords t) = ![t.val * 1280] :=
  (by decide +kernel : ∀ t : Fin grid0.N, _)

theorem scaleBlock_eq (t : Fin cfg0.N) (ws : Vec F S8960 .f32) :
    scaleBlock (grid0.coords t) ws = columnScales ws ⟨t.val, Nat.lt_of_lt_of_eq t.isLt N_0⟩ := by
  funext j
  show ws ((Rect.unit (s := S8960) (k0_off1 (grid0.coords t)) S1280.size (k0_off1_inb _)).emb j) = ws _
  refine congrArg ws (funext fun a => Fin.ext ?_)
  fin_cases a
  show k0_off1 (grid0.coords t) 0 + 1 * (j 0).val = _
  rw [off1_eq t]; simp

/-! ## The arrays after the run -/

/-- The product's column block `t`: codes times weights, each column times its scale, rounded. -/
def tileOf (x : Vec F S3x256x6784 .bf16) (s : Vec F S1 .f32) (w : Vec F S6784x8960 .fp8e4m3) (ws : Vec F S8960 .f32) (t : Fin 7) :
    FVec F S96x8x1280 .bf16 :=
  k0_pay2 (entry s) (codesOf (entry s) x) (weightBlock w t) (columnScales ws t)

/-- The whole product, its rows eight by eight. -/
def product (x : Vec F S3x256x6784 .bf16) (s : Vec F S1 .f32) (w : Vec F S6784x8960 .fp8e4m3) (ws : Vec F S8960 .f32) :
    FVec F S96x8x8960 .bf16 := fun i =>
  tileOf x s w ws ⟨(i 2).val / 1280, by have := (i 2).isLt; simp at this; omega⟩
    (ValueIdx.ix3 (i 0) (i 1) ⟨(i 2).val % 1280, by omega⟩)

theorem blockAt_eq (c : Dev nD) (t : Fin cfg0.N) : blockAt m c t
    = tileOf (m ((c : Thread nD τ).loc main_arg0)) (m ((c : Thread nD τ).loc main_arg1)) (m ((c : Thread nD τ).loc main_arg2))
        (m ((c : Thread nD τ).loc main_arg3)) ⟨t.val, Nat.lt_of_lt_of_eq t.isLt N_0⟩ := by
  unfold blockAt codesAt tileOf
  rw [iblk0_eq, iblk1_eq, iblk2_eq, iblk3_eq, scaleBlock_eq]

theorem tileOf_congr (x : Vec F S3x256x6784 .bf16) (s : Vec F S1 .f32) (w : Vec F S6784x8960 .fp8e4m3) (ws : Vec F S8960 .f32)
    {t t' : Fin 7} (ht : t.val = t'.val) {j j' : S96x8x1280.Idx} (hj : j = j') : tileOf x s w ws t j = tileOf x s w ws t' j' := by
  rw [Fin.ext ht, hj]

theorem final4 (c : Dev nD) : (dats m 0 c).arrAt 4 cfg0.N
    = product (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  refine (congrFun ((after0_4 m c t).trans (blockAt_eq m c t)) _).trans ?_
  unfold product
  have hy : (y 2).val < 1280 := (y 2).isLt
  have e0 : ((((cfg0.win 4).blk t).view.emb y) 0).val = (y 0).val := by
    blk_simp [idxY t]
  have e1 : ((((cfg0.win 4).blk t).view.emb y) 1).val = (y 1).val := by
    blk_simp [idxY t]
  have e2 : ((((cfg0.win 4).blk t).view.emb y) 2).val = t.val * 1280 + (y 2).val := by
    blk_simp [idxY t]
  refine tileOf_congr _ _ _ _ ?_ (funext fun a => Fin.ext ?_)
  · show t.val = _ / 1280
    omega
  · match a with
    | ⟨0, _⟩ => exact e0.symm
    | ⟨1, _⟩ => exact e1.symm
    | ⟨2, _⟩ =>
      show (y 2).val = _ % 1280
      omega

theorem final5 (c : Dev nD) : (dats m 0 c).arrAt 5 cfg0.N
    = codesOf (entry (m ((c : Thread nD τ).loc main_arg1))) (m ((c : Thread nD τ).loc main_arg0)) := by
  refine (dats m 0 c).arrAt_eq_of_after_last 5 ⟨6, by decide⟩ (by decide +kernel) _ fun j => ?_
  refine congrFun ((after0_5 m c _).trans ?_) j
  unfold codesAt
  rw [iblk0_eq, iblk1_eq]

theorem final6 (c : Dev nD) : (dats m 0 c).arrAt 6 cfg0.N = m ((c : Thread nD τ).loc main_arg1) := by
  refine (dats m 0 c).arrAt_eq_of_after_last 6 ⟨6, by decide⟩ (by decide +kernel) _ fun j => ?_
  refine congrFun ((after0_6 m c _).trans ?_) j
  unfold scaleAt
  rw [iblk0_eq]

/-- The rows of the product regrouped as the caller's. -/
def result (x : Vec F S3x256x6784 .bf16) (s : Vec F S1 .f32) (w : Vec F S6784x8960 .fp8e4m3) (ws : Vec F S8960 .f32) :
    FVec F S3x256x8960 .bf16 :=
  shapeCast S3x256x8960 (product x s w ws) shapeCasts_S96x8x8960_S3x256x8960

theorem tail_eq (c : Dev nD) : Pipeline.afterTail₀ cfgs (dats m) 0 (V0 m) [hostOps1] c main_v1
    = result (m ((c : Thread nD τ).loc main_arg0)) (m ((c : Thread nD τ).loc main_arg1)) (m ((c : Thread nD τ).loc main_arg2))
        (m ((c : Thread nD τ).loc main_arg3)) := by
  have h := Pipeline.withArrays_arr spec0 launch0.win.arr_inj c (V0 m c) (fun w => (dats m 0 c).arrAt w (cfgs 0).N) 4
  show StableHlo.after hostOps1 _ (Proc.devRef .tc main_v1) = _
  after_results
  unfold result
  rw [← final4 m c]
  exact congrArg (fun X => shapeCast S3x256x8960 X shapeCasts_S96x8x8960_S3x256x8960) h

/-- The run: each result at its function of the arguments, the arguments unchanged. -/
theorem run : θ_run defs (onTc (τ := τ) (main (F := F))) ⟨m, fun _ => 0, ρ⟩ fun r => ∀ c : Dev nD,
      r.2.mem ((c : Thread nD τ).loc main_v1) = result (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = codesOf (entry (m ((c : Thread nD τ).loc main_arg1))) (m ((c : Thread nD τ).loc main_arg0))
      ∧ r.2.mem ((c : Thread nD τ).loc main_v0_2) = m ((c : Thread nD τ).loc main_arg1)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h.1 c).2 main_v1 (Pipeline.mem_restRefs_of main_v1 (by decide) (by decide))).trans (tail_eq m c),
      ((h.1 c).1 5).trans (final5 m c), ((h.1 c).1 6).trans (final6 m c), h.2 c⟩)
    (θ_run_and (run_main m ρ) (frame_of m ρ (dats m) (A_eq m) (run_main m ρ)))

end Cert.KernelIdeal.Run

end
-- ==== Proof.Search.lean ====
/- The kernel's search for the exponent field of the scale, at the extended reals: the field it finds is the greatest one
   whose power of two is not above the scale's magnitude. -/
module

public import proofs.«01_k».proof.Proof.Body
public import Idealize.ShloMosaic.PureOps.Ideal.Laws

@[expose] public section

noncomputable section

namespace Cert.Proof

open Idealize.ShloMosaic
open Cert.KernelIdeal.Run (step high field invScale)

/-- The value of the word whose exponent field is `n` and whose other bits are zero. -/
def pow (n : ℕ) : EReal := Ideal.ofBits .f32 (Scalar.shli (BitVec.ofNat 32 n) 23#32)

theorem pow_bits : ∀ n : Fin 256,
    (Scalar.shli (BitVec.ofNat 32 n.val) 23#32).extractLsb' 31 1 = 0#1
    ∧ ((Scalar.shli (BitVec.ofNat 32 n.val) 23#32).extractLsb' 23 8).toNat = n.val
    ∧ ((Scalar.shli (BitVec.ofNat 32 n.val) 23#32).extractLsb' 0 23).toNat = 0 := by
  decide +kernel

theorem pow_zero : pow 0 = 0 := by
  obtain ⟨h1, h2, h3⟩ := pow_bits 0
  unfold pow Ideal.ofBits Ideal.ieee
  simp only [Fin.val_zero] at h1 h2 h3
  simp [h1, h2, h3]

theorem pow_top : pow 255 = ⊤ := by
  obtain ⟨h1, h2, h3⟩ := pow_bits 255
  unfold pow Ideal.ofBits Ideal.ieee
  simp only [show ((255 : Fin 256) : ℕ) = 255 from rfl] at h1 h2 h3
  simp [h1, h2, h3]

theorem ieee_word {b : BitVec 32} {n : ℕ} (e1 : b.extractLsb' 31 1 = 0#1) (e2 : (b.extractLsb' 23 8).toNat = n)
    (e3 : (b.extractLsb' 0 23).toNat = 0) (h0 : n ≠ 0) (h1 : n ≠ 255) :
    Ideal.ieee 8 23 b = (((2 : ℝ) ^ ((n : ℤ) - 127) : ℝ) : EReal) := by
  have h1' : ¬ n = 2 ^ 8 - 1 := h1
  unfold Ideal.ieee
  simp only [Nat.reduceAdd, e1, e2, e3]
  rw [if_neg h1', if_neg h0, EReal.coe_eq_coe_iff, if_neg (by decide),
    show ((n : ℤ) - (2 ^ (8 - 1) - 1) - ((23 : ℕ) : ℤ)) = ((n : ℤ) - 127) - 23 by norm_num, zpow_sub₀ (by norm_num)]
  norm_num
  ring

theorem pow_mid {n : ℕ} (h0 : 0 < n) (h1 : n < 255) : pow n = (((2 : ℝ) ^ ((n : ℤ) - 127) : ℝ) : EReal) := by
  obtain ⟨e1, e2, e3⟩ := pow_bits ⟨n, by omega⟩
  exact ieee_word e1 e2 e3 (by omega) (by omega)

/-- What the search knows with `w` candidates left: the field found so far is not too large, and `w` above it is. -/
def Inv (s : Ideal .f32) (w : ℕ) (b : BitVec 32) : Prop :=
  ∃ n : ℕ, b = BitVec.ofNat 32 n ∧ n + w ≤ 256 ∧ pow n ≤ max s (-s) ∧ (n + w = 256 ∨ max s (-s) < pow (n + w))

theorem step_inv {s : Ideal .f32} {w : ℕ} {b : BitVec 32} (h : Inv s (w + w) b) : Inv s w (step (F := Ideal) s b (BitVec.ofNat 32 w)) := by
  obtain ⟨n, rfl, hn, hle, hlt⟩ := h
  have e : step (F := Ideal) s (BitVec.ofNat 32 n) (BitVec.ofNat 32 w)
      = if pow (n + w) ≤ max s (-s) then BitVec.ofNat 32 (n + w) else BitVec.ofNat 32 n := by
    have ea : Scalar.addi (BitVec.ofNat 32 n) (BitVec.ofNat 32 w) = BitVec.ofNat 32 (n + w) := (BitVec.ofNat_add n w).symm
    unfold step
    rw [ea]
    show Scalar.select (BitVec.ofBool (decide (pow (n + w) ≤ max s (-s)))) _ _ = _
    unfold Scalar.select
    by_cases hc : pow (n + w) ≤ max s (-s) <;> simp [hc]
  rw [e]
  by_cases hc : pow (n + w) ≤ max s (-s)
  · rw [if_pos hc]
    exact ⟨n + w, rfl, by omega, hc, by rw [add_assoc]; exact hlt⟩
  · rw [if_neg hc]
    exact ⟨n, rfl, by omega, hle, Or.inr (not_le.mp hc)⟩

theorem mag_nonneg (s : EReal) : 0 ≤ max s (-s) := by
  rcases le_total 0 s with h | h
  · exact le_max_of_le_left h
  · exact le_max_of_le_right (EReal.neg_nonneg.mpr h)

/-- The field found. -/
theorem field_inv (s : Ideal .f32) : Inv s 1 (field (F := Ideal) s) := by
  have h : Inv s 256 0#32 := ⟨0, rfl, le_refl _, by rw [pow_zero]; exact mag_nonneg s, Or.inl rfl⟩
  exact step_inv (w := 1) (step_inv (w := 2) (step_inv (w := 4) (step_inv (w := 8) (step_inv (w := 16) (step_inv (w := 32)
    (step_inv (w := 64) (step_inv (w := 128) h)))))))

/-- The power of two the codes are scaled by, from the field found. -/
theorem invScale_of_field {s : Ideal .f32} {n : ℕ} (hn : n < 256) (h : field (F := Ideal) s = BitVec.ofNat 32 n) :
    invScale (F := Ideal) s = pow (if n = 0 ∨ n = 255 then 128 else 254 - n) := by
  have key : ∀ n : Fin 256, Scalar.select (Scalar.ori (Scalar.cmpi .eq (BitVec.ofNat 32 n.val) 0#32)
      (Scalar.cmpi .eq (BitVec.ofNat 32 n.val) 255#32)) 128#32 (Scalar.subi 254#32 (BitVec.ofNat 32 n.val))
      = BitVec.ofNat 32 (if n.val = 0 ∨ n.val = 255 then 128 else 254 - n.val) := by decide +kernel
  unfold invScale
  rw [h, key ⟨n, hn⟩]
  rfl

/-- Powers of two, ordered. -/
theorem two_zpow_le {a b : ℤ} : (((2 : ℝ) ^ a : ℝ) : EReal) ≤ (((2 : ℝ) ^ b : ℝ) : EReal) ↔ a ≤ b := by
  rw [EReal.coe_le_coe_iff]
  exact zpow_le_zpow_iff_right₀ (by norm_num)

end Cert.Proof

end
-- ==== Proof.Quantiser.lean ====
/- The reference's quantiser at the extended reals: the power of two it multiplies by is the kernel's. -/
module

public import proofs.«01_k».proof.Proof.Search
public import Idealize.ShloMosaic.Lib.ValueIdx
public import proofs.«01_k».proof.Proof.Gen.ReferenceIdeal.Skeleton

@[expose] public section

set_option maxRecDepth 16384

noncomputable section

namespace Cert.Proof

open Idealize.ShloMosaic
open Cert.ReferenceIdeal Cert.ReferenceIdeal.Gen
open Cert.KernelIdeal.Run (field invScale entry eq_entry idx1 codesOf)

/-- The table of powers of two, those above the scale's magnitude replaced by zero. -/
def masked (v0 : FVec Ideal S1 .f32) : FVec Ideal S1x254 .f32 :=
  select (cmpf .ole (exp2 (subf (sitofp .f32 (iota .tc S1x254 32 [1] iota_S1x254_d1_w32)) (broadcast S1x254 (Scalar.ofBits .f32 0x42FC0000#32))))
      (broadcastTo S1x254 (shapeCast S1x1 (absf v0) shapeCasts_S1_S1x1) broadcasts_S1x1_S1x254))
    (exp2 (subf (sitofp .f32 (iota .tc S1x254 32 [1] iota_S1x254_d1_w32)) (broadcast S1x254 (Scalar.ofBits .f32 0x42FC0000#32))))
    (broadcast S1x254 (Scalar.ofBits .f32 0x00000000#32))

/-- The greatest of them. -/
def largest (v0 : FVec Ideal S1 .f32) : Ideal .f32 :=
  extractAt ![0, 0, 0] (shapeCast S1x1x1 (multiReduction .maximumf [1, 2] S1 (shapeCast S1x1x254 (masked v0) shapeCasts_S1x254_S1x1x254)
    0xFF800000#32 reduces_S1x1x254_S1 (.inl rfl) rfl) shapeCasts_S1_S1x1x1) inpos_S1x1x1_p0_0_0

/-- The power of two under the scale, one half where the scale has none. -/
def power (v0 : FVec Ideal S1 .f32) : FVec Ideal S1 .f32 :=
  select (andi (cmpf .oge (absf v0) (broadcast S1 (Scalar.ofBits .f32 0x00800000#32)))
      (cmpf .olt (absf v0) (broadcast S1 (Scalar.ofBits .f32 0x7F800000#32))))
    (broadcast S1 (largest v0)) (broadcast S1 (Scalar.ofBits .f32 0x3F000000#32))

/-- Its reciprocal, a subnormal one flushed to zero. -/
def recip (v0 : FVec Ideal S1 .f32) : FVec Ideal S1 .f32 :=
  select (cmpf .oge (divf (broadcast S1 (Scalar.ofBits .f32 0x3F800000#32)) (power v0)) (broadcast S1 (Scalar.ofBits .f32 0x00800000#32)))
    (divf (broadcast S1 (Scalar.ofBits .f32 0x3F800000#32)) (power v0)) (broadcast S1 (Scalar.ofBits .f32 0x00000000#32))

theorem quantiser_eq (v0 : FVec Ideal S1 .f32) (x : FVec Ideal S3x256x6784 .bf16) : k0_pay2 v0 x
    = truncf .fp8e4m3 (minimumf (broadcast S3x256x6784 (Scalar.ofBits .f32 0x43E00000#32))
      (maximumf (broadcast S3x256x6784 (Scalar.ofBits .f32 0xC3E00000#32))
        (mulf (extf .f32 x bitsLt_bf16_f32) (broadcastTo S3x256x6784 (shapeCast S1x1x1 (recip v0) shapeCasts_S1_S1x1x1) broadcasts_S1x1x1_S3x256x6784))))
        bitsLt_fp8e4m3_f32 := rfl

theorem ofBits_126 : Ideal.ofBits .f32 0x42FC0000#32 = ((126 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_one : Ideal.ofBits .f32 0x3F800000#32 = 1 := by
  simp [Ideal.ofBits, Ideal.ieee, -EReal.coe_mul]; norm_num

theorem ofBits_tiny : Ideal.ofBits .f32 0x00800000#32 = pow 1 := rfl

theorem ofBits_inf : Ideal.ofBits .f32 0x7F800000#32 = ⊤ := pow_top

/-- An entry of the table of powers of two. -/
theorem table_apply (n : ℕ) (hn : n < 254) :
    Ideal.exp2 ((((BitVec.ofNat 32 n).toInt : ℝ) : EReal) - Ideal.ofBits .f32 0x42FC0000#32) = pow (n + 1) := by
  have e : (BitVec.ofNat 32 n).toInt = (n : ℤ) := by
    rw [BitVec.toInt_ofNat']; simp [Int.bmod]; omega
  rw [e, ofBits_126, ← EReal.coe_sub, Ideal.exp2_coe, pow_mid (by omega) (by omega), EReal.coe_eq_coe_iff]
  show (2 : ℝ) ^ (((n : ℤ) : ℝ) - 126) = _
  rw [← Real.rpow_intCast]
  congr 1
  push_cast
  ring

/-- An entry of the masked table. -/
theorem masked_apply (v0 : FVec Ideal S1 .f32) (i : S1x254.Idx) :
    masked v0 i = if pow ((i 1).val + 1) ≤ max (entry (F := Ideal) v0) (-entry (F := Ideal) v0) then pow ((i 1).val + 1) else 0 := by
  have et : exp2 (F := Ideal) (subf (sitofp .f32 (iota .tc S1x254 32 [1] iota_S1x254_d1_w32)) (broadcast S1x254 (Scalar.ofBits .f32 0x42FC0000#32))) i
      = pow ((i 1).val + 1) :=
    (congrArg (fun k => Ideal.exp2 ((((BitVec.ofNat 32 k).toInt : ℝ) : EReal) - Ideal.ofBits .f32 0x42FC0000#32))
      (show 0 * 254 + (i 1).val = (i 1).val by omega)).trans (table_apply (i 1).val (i 1).isLt)
  have ea : broadcastTo S1x254 (shapeCast S1x1 (absf v0) shapeCasts_S1_S1x1) broadcasts_S1x1_S1x254 i
      = max (entry (F := Ideal) v0) (-entry (F := Ideal) v0) := by
    show max (v0 _) (-(v0 _)) = _
    rw [eq_entry (F := Ideal) v0]
  show Scalar.select (BitVec.ofBool (decide (_ ≤ _))) _ _ = _
  rw [et, ea]
  show Scalar.select _ _ (Ideal.ofBits .f32 0x00000000#32) = _
  rw [Ideal.ofBits_zero_f32]
  unfold Scalar.select
  by_cases hc : pow ((i 1).val + 1) ≤ max (entry (F := Ideal) v0) (-entry (F := Ideal) v0) <;> simp [hc]

/-- The greatest entry, whatever order the table is read in. -/
theorem largest_eq (v0 : FVec Ideal S1 .f32) : ∃ e : S1x1x254.Idx → S1x254.Idx, Function.Surjective e ∧ largest v0
    = (Finset.univ : Finset S1x1x254.Idx).fold max ⊥ fun i => masked v0 (e i) := by
  refine ⟨Shape.reshapeEquiv shapeCasts_S1x254_S1x1x254, Equiv.surjective _, ?_⟩
  refine (multiReduction_maximumf_eq_fold (φ := .f32) (shapeCast S1x1x254 (masked v0) shapeCasts_S1x254_S1x1x254) 0xFF800000#32
    reduces_S1x1x254_S1 (.inl rfl) rfl _).trans ?_
  rw [Finset.filter_true_of_mem fun i _ => idx1 _ _]
  have hb : FloatOps.ofBits (F := Ideal) .f32 0xFF800000#32 = ⊥ := by simp [Ideal.ofBits, Ideal.ieee]
  rw [hb]
  rfl

theorem pow_le {a b : ℕ} (ha : 0 < a) (hab : a ≤ b) (hb : b < 255) : pow a ≤ pow b := by
  rw [pow_mid ha (by omega), pow_mid (by omega) hb, two_zpow_le]; omega

theorem pow_pos {a : ℕ} (ha : 0 < a) (hb : a < 255) : 0 < pow a := by
  rw [pow_mid ha hb]; exact_mod_cast zpow_pos (by norm_num : (0 : ℝ) < 2) _

/-- With `n` the greatest field whose power is not above the magnitude, the greatest entry is that power. -/
theorem largest_of_field (v0 : FVec Ideal S1 .f32) {n : ℕ} (h0 : 0 < n) (h1 : n < 255)
    (hle : pow n ≤ max (entry (F := Ideal) v0) (-entry (F := Ideal) v0))
    (hlt : max (entry (F := Ideal) v0) (-entry (F := Ideal) v0) < pow (n + 1)) : largest v0 = pow n := by
  obtain ⟨e, he, hl⟩ := largest_eq v0
  rw [hl]
  apply le_antisymm
  · rw [Finset.fold_max_le]
    refine ⟨bot_le, fun i _ => ?_⟩
    rw [masked_apply]
    split_ifs with hc
    · by_contra hn
      have hk : ((e i) 1).val < 254 := ((e i) 1).isLt
      have hgt : n + 1 ≤ ((e i) 1).val + 1 := by
        by_contra hcon
        exact hn (pow_le (by omega) (by omega) h1)
      exact absurd (lt_of_lt_of_le hlt (pow_le (by omega) hgt (by omega))) (not_lt.mpr hc)
    · exact (pow_pos h0 h1).le
  · rw [Finset.le_fold_max]
    right
    obtain ⟨i, hi⟩ := he (ValueIdx.ix2 (0 : Fin 1) ⟨n - 1, by omega⟩)
    refine ⟨i, Finset.mem_univ _, ?_⟩
    rw [masked_apply, hi]
    show pow n ≤ if pow (n - 1 + 1) ≤ _ then pow (n - 1 + 1) else 0
    rw [Nat.sub_add_cancel h0, if_pos hle]

/-- The reciprocal the reference multiplies by, of the power it divides by. -/
theorem recip_apply (v0 : FVec Ideal S1 .f32) (i : S1.Idx) :
    recip v0 i = if pow 1 ≤ Ideal.div 1 (power v0 i) then Ideal.div 1 (power v0 i) else 0 := by
  show Scalar.select (BitVec.ofBool (decide (pow 1 ≤ Ideal.div (Ideal.ofBits .f32 0x3F800000#32) (power v0 i))))
    (Ideal.div (Ideal.ofBits .f32 0x3F800000#32) (power v0 i)) (Ideal.ofBits .f32 0x00000000#32) = _
  rw [Ideal.ofBits_zero_f32, ofBits_one]
  unfold Scalar.select
  by_cases hc : pow 1 ≤ Ideal.div 1 (power v0 i) <;> simp [hc]

theorem select_and (a b : Prop) [Decidable a] [Decidable b] (p q : EReal) :
    Scalar.select (BitVec.ofBool (decide a) &&& BitVec.ofBool (decide b)) p q = if a ∧ b then p else q := by
  unfold Scalar.select
  by_cases ha : a <;> by_cases hb : b <;> simp [ha, hb]

theorem powerOf_apply (v0 : FVec Ideal S1 .f32) (p : Ideal .f32) (i : S1.Idx) :
    select (andi (cmpf .oge (absf v0) (broadcast S1 (Scalar.ofBits .f32 0x00800000#32)))
      (cmpf .olt (absf v0) (broadcast S1 (Scalar.ofBits .f32 0x7F800000#32))))
      (broadcast S1 p) (broadcast S1 (Scalar.ofBits .f32 0x3F000000#32)) i
    = if pow 1 ≤ max (v0 i) (-v0 i) ∧ max (v0 i) (-v0 i) < Ideal.ofBits .f32 0x7F800000#32
      then p else Ideal.ofBits .f32 0x3F000000#32 :=
  select_and (pow 1 ≤ max (v0 i) (-v0 i)) (max (v0 i) (-v0 i) < Ideal.ofBits .f32 0x7F800000#32) p (Ideal.ofBits .f32 0x3F000000#32)

/-- The power it divides by. -/
theorem power_apply (v0 : FVec Ideal S1 .f32) (i : S1.Idx) :
    power v0 i = if pow 1 ≤ max (entry (F := Ideal) v0) (-entry (F := Ideal) v0) ∧ max (entry (F := Ideal) v0) (-entry (F := Ideal) v0) < ⊤
      then largest v0 else ((1 / 2 : ℝ) : EReal) := by
  unfold power
  rw [powerOf_apply, ofBits_half, ofBits_inf, eq_entry (F := Ideal) v0]

theorem div_pow {n : ℕ} (h0 : 0 < n) (h1 : n < 255) : Ideal.div 1 (pow n) = (((2 : ℝ) ^ (127 - (n : ℤ)) : ℝ) : EReal) := by
  rw [pow_mid h0 h1, Ideal.div_coe (by positivity), one_mul, EReal.coe_eq_coe_iff, one_div, ← zpow_neg, neg_sub]

theorem div_half : Ideal.div 1 ((1 / 2 : ℝ) : EReal) = pow 128 := by
  rw [pow_mid (by norm_num) (by norm_num), Ideal.div_coe (by norm_num), one_mul, EReal.coe_eq_coe_iff]
  norm_num

/-- The reference's multiplier is the kernel's, whatever the scale. -/
theorem recip_eq (v0 : FVec Ideal S1 .f32) (i : S1.Idx) : recip v0 i = invScale (F := Ideal) (entry (F := Ideal) v0) := by
  obtain ⟨n, hf, hn, hle, hlt⟩ := Cert.Proof.field_inv (entry (F := Ideal) v0)
  rw [invScale_of_field (by omega) hf, recip_apply]
  by_cases h0 : n = 0
  · subst h0
    have hlt' : max (entry (F := Ideal) v0) (-entry (F := Ideal) v0) < pow 1 := hlt.resolve_left (by omega)
    have hp := (power_apply v0 i).trans (if_neg fun h => absurd h.1 (not_le.mpr hlt'))
    rw [hp, div_half, if_pos (pow_le (by norm_num) (by norm_num) (by norm_num))]
    rfl
  by_cases h1 : n = 255
  · subst h1
    rw [pow_top] at hle
    have hp := (power_apply v0 i).trans (if_neg fun h => absurd h.2 (not_lt.mpr hle))
    rw [hp, div_half, if_pos (pow_le (by norm_num) (by norm_num) (by norm_num))]
    rfl
  · have hlt' : max (entry (F := Ideal) v0) (-entry (F := Ideal) v0) < pow (n + 1) := hlt.resolve_left (by omega)
    have hp := (power_apply v0 i).trans (if_pos ⟨(pow_le (by norm_num) (by omega) (by omega)).trans hle, hlt'.trans_le le_top⟩)
    rw [hp, largest_of_field v0 (by omega) (by omega) hle hlt', div_pow (by omega) (by omega),
      if_neg (show ¬(n = 0 ∨ n = 255) by omega)]
    by_cases h2 : n = 254
    · subst h2
      rw [if_neg (by rw [pow_mid (by norm_num) (by norm_num), two_zpow_le]; norm_num)]
      exact pow_zero.symm
    · rw [if_pos (by rw [pow_mid (by norm_num) (by norm_num), two_zpow_le]; push_cast; omega), pow_mid (by omega) (by omega)]
      congr 2
      omega

/-- THE CODES: the reference's quantiser is the kernel's, at every scale and every input. -/
theorem codes_eq (v0 : FVec Ideal S1 .f32) (x : FVec Ideal S3x256x6784 .bf16) :
    k0_pay2 (F := Ideal) v0 x = codesOf (F := Ideal) (entry (F := Ideal) v0) x := by
  rw [quantiser_eq]
  unfold codesOf
  have h : broadcastTo S3x256x6784 (shapeCast S1x1x1 (recip v0) shapeCasts_S1_S1x1x1) broadcasts_S1x1x1_S3x256x6784
      = broadcast S3x256x6784 (invScale (F := Ideal) (entry (F := Ideal) v0)) := funext fun j => recip_eq v0 _
  rw [h]

end Cert.Proof

end
-- ==== Proof.Product.lean ====
/- The product at the extended reals: an element of the reference's result is the same element of the kernel's. -/
module

public import proofs.«01_k».proof.Proof.KernelValue
public import proofs.«01_k».proof.Proof.Quantiser
public import Idealize.ShloMosaic.Lib.MatmulPlain

@[expose] public section

set_option maxRecDepth 16384

noncomputable section

namespace Cert.Proof

open Idealize.ShloMosaic
open Cert.KernelIdeal (S3x256x6784 S768x6784 S6784x1280 S1280 S96x8x1280 S3x256x8960 S96x8x8960 S8960 S1)
open Cert.ReferenceIdeal (S6784x8960)
open Cert.KernelIdeal.Run (entry eq_entry codesOf weightBlock columnScales tileOf product result)

variable (codes : FVec Ideal S3x256x6784 .fp8e4m3) (s : FVec Ideal S1 .f32) (w : FVec Ideal S6784x8960 .fp8e4m3) (ws : FVec Ideal S8960 .f32)

/-- The codes as one matrix, the two row axes merged. -/
def rows : FVec Ideal S768x6784 .fp8e4m3 := shapeCast S768x6784 codes Cert.KernelIdeal.Gen.shapeCasts_S3x256x6784_S768x6784

/-- An element of the result: a row of codes times a column of weights, times the two scales. -/
def elem (r : Fin 768) (c : Fin 8960) : EReal :=
  (∑ k : Fin 6784, rows codes (ValueIdx.ix2 r k) * w (ValueIdx.ix2 k c)) * (entry (F := Ideal) s * ws (ValueIdx.ix1 c))

/-- Rounding is the identity on the extended reals. -/
theorem truncf_eq {S : Shape} {φ : FTy} (ψ : FTy) (v : FVec Ideal S φ) (h : ψ.bits < φ.bits) : truncf ψ v h = v := rfl

theorem dot_ref : Cert.ReferenceIdeal.dot_S768x6784_S6784x8960_S768x8960_1_0_0_1_n_n = DotDims.plain 768 6784 8960 := rfl
theorem dot_ker : Cert.KernelIdeal.dot_S768x6784_S6784x1280_S768x1280_1_0_0_1_n_n = DotDims.plain 768 6784 1280 := rfl

/-- An element of the reference's product. -/
theorem ref_apply (a : Fin 3) (b : Fin 256) (c : Fin 8960) (r : Fin 768) (hr : r.val = a.val * 256 + b.val) :
    Cert.ReferenceIdeal.Gen.k0_pay1 (F := Ideal) s codes w ws (ValueIdx.ix3 a b c) = elem codes s w ws r c := by
  unfold Cert.ReferenceIdeal.Gen.k0_pay1
  rw [truncf_eq]
  refine (shapeCast_apply _ _ (ValueIdx.ix3 a b c) (ValueIdx.ix2 r c) (by
    rw [Shape.rowMajor_val_two, Shape.rowMajor_val_three]
    show r.val * 8960 + c.val = (a.val * 256 + b.val) * 8960 + c.val
    omega)).trans ?_
  have hm : FloatOps.matmul (F := Ideal) Cert.ReferenceIdeal.dot_S768x6784_S6784x8960_S768x8960_1_0_0_1_n_n none (rows codes) w
      (constant Cert.ReferenceIdeal.S768x8960 .f32 0x00000000#32) (ValueIdx.ix2 r c)
      = ∑ k : Fin 6784, rows codes (ValueIdx.ix2 r k) * w (ValueIdx.ix2 k c) := by
    rw [dot_ref, Ideal.matmul_plain_apply]
    show Ideal.ofBits .f32 0x00000000#32 + _ = _
    rw [Ideal.ofBits_zero_f32, zero_add]
  have hs : broadcastTo Cert.ReferenceIdeal.S768x8960 (shapeCast Cert.ReferenceIdeal.S1x8960
        (mulf (F := Ideal) (φ := .f32) (broadcast Cert.ReferenceIdeal.S8960 (extractAt ![0] s Cert.ReferenceIdeal.Gen.inpos_S1_p0)) ws)
        Cert.ReferenceIdeal.Gen.shapeCasts_S8960_S1x8960) Cert.ReferenceIdeal.Gen.broadcasts_S1x8960_S768x8960 (ValueIdx.ix2 r c)
      = entry (F := Ideal) s * ws (ValueIdx.ix1 c) := by
    rw [broadcastTo_apply _ _ _ (ValueIdx.ix2 (0 : Fin 1) c) (fun d => by
      match d with
      | ⟨0, _⟩ => rfl
      | ⟨1, _⟩ => rfl)]
    refine (shapeCast_apply _ _ _ (ValueIdx.ix1 c) (by
      rw [Shape.rowMajor_val_one, Shape.rowMajor_val_two]
      show c.val = 0 * 8960 + c.val
      omega)).trans ?_
    show s _ * _ = _
    rw [eq_entry (F := Ideal) s]
  exact congrArg₂ (· * ·) hm hs

/-- An element of a column block of the kernel's product. -/
theorem tile_apply (wt : FVec Ideal S6784x1280 .fp8e4m3) (wst : FVec Ideal S1280 .f32) (a : Fin 96) (b : Fin 8) (c : Fin 1280) (r : Fin 768)
    (hr : r.val = a.val * 8 + b.val) :
    Cert.KernelIdeal.Gen.k0_pay2 (F := Ideal) (entry (F := Ideal) s) codes wt wst (ValueIdx.ix3 a b c)
      = (∑ k : Fin 6784, rows codes (ValueIdx.ix2 r k) * wt (ValueIdx.ix2 k c)) * (entry (F := Ideal) s * wst (ValueIdx.ix1 c)) := by
  unfold Cert.KernelIdeal.Gen.k0_pay2
  rw [truncf_eq]
  refine (shapeCast_apply _ _ (ValueIdx.ix3 a b c) (ValueIdx.ix2 r c) (by
    rw [Shape.rowMajor_val_two, Shape.rowMajor_val_three]
    show r.val * 1280 + c.val = (a.val * 8 + b.val) * 1280 + c.val
    omega)).trans ?_
  have hc : shapeCast S3x256x6784 codes Cert.KernelIdeal.Gen.shapeCasts_S3x256x6784_S3x256x6784 = codes :=
    funext fun i => shapeCast_apply _ _ i i rfl
  have hm : FloatOps.matmul (F := Ideal) Cert.KernelIdeal.dot_S768x6784_S6784x1280_S768x1280_1_0_0_1_n_n none
      (shapeCast S768x6784 (shapeCast S3x256x6784 codes Cert.KernelIdeal.Gen.shapeCasts_S3x256x6784_S3x256x6784)
        Cert.KernelIdeal.Gen.shapeCasts_S3x256x6784_S768x6784) wt
      (constant Cert.KernelIdeal.S768x1280 .f32 0x00000000#32) (ValueIdx.ix2 r c)
      = ∑ k : Fin 6784, rows codes (ValueIdx.ix2 r k) * wt (ValueIdx.ix2 k c) := by
    rw [hc, dot_ker, Ideal.matmul_plain_apply]
    show Ideal.ofBits .f32 0x00000000#32 + _ = _
    rw [Ideal.ofBits_zero_f32, zero_add]
    rfl
  have hs : broadcastTo Cert.KernelIdeal.S768x1280 (shapeCast Cert.KernelIdeal.S1x1280
        (mulf (F := Ideal) (φ := .f32) (broadcast S1280 (entry (F := Ideal) s)) wst)
        Cert.KernelIdeal.Gen.shapeCasts_S1280_S1x1280) Cert.KernelIdeal.Gen.broadcasts_S1x1280_S768x1280 (ValueIdx.ix2 r c)
      = entry (F := Ideal) s * wst (ValueIdx.ix1 c) := by
    rw [broadcastTo_apply _ _ _ (ValueIdx.ix2 (0 : Fin 1) c) (fun d => by
      match d with
      | ⟨0, _⟩ => rfl
      | ⟨1, _⟩ => rfl)]
    refine (shapeCast_apply _ _ _ (ValueIdx.ix1 c) (by
      rw [Shape.rowMajor_val_one, Shape.rowMajor_val_two]
      show c.val = 0 * 1280 + c.val
      omega)).trans ?_
    rfl
  exact congrArg₂ (· * ·) hm hs

/-- An element of the kernel's result, its rows regrouped. -/
theorem result_apply (x : FVec Ideal S3x256x6784 .bf16) (a : Fin 3) (b : Fin 256) (c : Fin 8960) (p : Fin 96) (q : Fin 8)
    (h : p.val * 8 + q.val = a.val * 256 + b.val) :
    result (F := Ideal) x s w ws (ValueIdx.ix3 a b c) = product (F := Ideal) x s w ws (ValueIdx.ix3 p q c) := by
  unfold result
  refine shapeCast_apply _ _ (ValueIdx.ix3 a b c) (ValueIdx.ix3 p q c) ?_
  rw [Shape.rowMajor_val_three, Shape.rowMajor_val_three]
  show (p.val * 8 + q.val) * 8960 + c.val = (a.val * 256 + b.val) * 8960 + c.val
  omega

/-- An element of the kernel's product. -/
theorem product_apply (x : FVec Ideal S3x256x6784 .bf16) (p : Fin 96) (q : Fin 8) (c : Fin 8960) (r : Fin 768) (hr : r.val = p.val * 8 + q.val) :
    product (F := Ideal) x s w ws (ValueIdx.ix3 p q c) = elem (codesOf (F := Ideal) (entry (F := Ideal) s) x) s w ws r c := by
  have hcol : ∀ h, (⟨c.val / 1280 * 1280 + c.val % 1280, h⟩ : Fin 8960) = c := fun h => Fin.ext (by
    show c.val / 1280 * 1280 + c.val % 1280 = _; omega)
  have hc := c.isLt
  unfold product tileOf
  refine (tile_apply _ s _ _ p q ⟨c.val % 1280, by omega⟩ r hr).trans ?_
  unfold elem
  refine congrArg₂ (· * ·) (Finset.sum_congr rfl fun k _ => congrArg₂ (· * ·) rfl ?_) (congrArg₂ (· * ·) rfl ?_)
  · exact congrArg (fun c => w (ValueIdx.ix2 k c)) (hcol (by omega))
  · exact congrArg (fun c => ws (ValueIdx.ix1 c)) (hcol (by omega))

/-- THE PRODUCT: the reference's, its codes the kernel's, is the kernel's result. -/
theorem result_eq (x : FVec Ideal S3x256x6784 .bf16) :
    Cert.ReferenceIdeal.Gen.k0_pay1 (F := Ideal) s (codesOf (F := Ideal) (entry (F := Ideal) s) x) w ws
      = result (F := Ideal) x s w ws := by
  refine funext fun (j : S3x256x8960.Idx) => ?_
  obtain ⟨a, b, c, rfl⟩ : ∃ (a : Fin 3) (b : Fin 256) (c : Fin 8960), j = ValueIdx.ix3 a b c := ⟨j 0, j 1, j 2, ValueIdx.eq_ix3 j⟩
  have ha := a.isLt
  have hb := b.isLt
  refine (ref_apply _ s w ws a b c ⟨a.val * 256 + b.val, by omega⟩ rfl).trans ?_
  have hd : (a.val * 256 + b.val) / 8 * 8 + (a.val * 256 + b.val) % 8 = a.val * 256 + b.val := by omega
  exact ((result_apply s w ws x a b c ⟨(a.val * 256 + b.val) / 8, by omega⟩ ⟨(a.val * 256 + b.val) % 8, by omega⟩ hd).trans
    (product_apply s w ws x _ _ c ⟨a.val * 256 + b.val, by omega⟩ hd.symm)).symm

end Cert.Proof

end
-- ==== Proof.Algebraic.lean ====
/- The value claim: the kernel's three results are the reference's. -/
module

public import proofs.«01_k».proof.Defs
public import proofs.«01_k».proof.Proof.Product
public import proofs.«01_k».proof.Proof.Gen.KernelIdeal
public import proofs.«01_k».proof.Proof.Gen.ReferenceIdeal
public import proofs.«01_k».proof.Proof.Gen.ReferenceIdeal.Value

@[expose] public section

set_option maxRecDepth 16384

noncomputable section

namespace Cert.Proof

open Idealize.ShloMosaic Idealize.ShloMosaic.TcCoe
open Cert.KernelIdeal.Run (entry codesOf result)

/-- The reference's codes, its loads being of whole arrays. -/
theorem ref_codes (x : Vec Ideal Cert.ReferenceIdeal.S3x256x6784 .bf16) (s : Vec Ideal Cert.ReferenceIdeal.S1 .f32)
    (w : Vec Ideal Cert.ReferenceIdeal.S6784x8960 .fp8e4m3) (ws : Vec Ideal Cert.ReferenceIdeal.S8960 .f32) :
    Cert.ReferenceIdeal.Gen.k0_pay3 (F := Ideal) x s w ws = codesOf (F := Ideal) (entry (F := Ideal) s) x := by
  unfold Cert.ReferenceIdeal.Gen.k0_pay3
  rw [View.ld_unit_zero (S := Cert.ReferenceIdeal.S1) Cert.KernelIdeal.Run.hz1 _ s,
    View.ld_unit_zero (S := Cert.ReferenceIdeal.S3x256x6784) Cert.KernelIdeal.Run.hz3 _ x]
  exact codes_eq s x

theorem algebraic : Cert.algebraic_KernelIdeal_ReferenceIdeal (hKernelIdeal := Cert.KernelIdeal.Gen.facts)
    (hReferenceIdeal := Cert.ReferenceIdeal.Gen.facts) := by
  intro m g m' g' _ hm
  refine ⟨_, _, _, Cert.KernelIdeal.Run.run (F := Ideal) m g, ?_⟩
  refine (θ_run (Cert.ReferenceIdeal.defs (F := Ideal)) _ _).mono (fun r h c => ?_) (Cert.ReferenceIdeal.Value.run (F := Ideal) m' g')
  obtain ⟨h0, h1, h2, h3⟩ := hm c
  obtain ⟨r0, r1, r2, k⟩ := h c
  refine ⟨r0.trans ?_, r1.trans ?_, r2.trans h1, k⟩
  · rw [h0, h1, h2, h3]
    refine Eq.trans ?_ (result_eq _ _ _ _)
    exact congrArg (fun X => Cert.ReferenceIdeal.Gen.k0_pay1 (F := Ideal) _ X _ _) (ref_codes _ _ _ _)
  · rw [h0, h1, h2, h3]
    exact ref_codes _ _ _ _

end Cert.Proof

end
-- ==== Proof.lean ====
/- The proof of the certificate's claim. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.MachineRun
public import proofs.«01_k».proof.Proof.Run
public import proofs.«01_k».proof.Proof.Algebraic

@[expose] public section

theorem Cert.Proof.claim : Cert.Claim :=
  ⟨Cert.Kernel.Gen.facts, Cert.KernelIdeal.Gen.facts, Cert.ReferenceIdeal.Gen.facts,
    fun m ρ _ => Cert.Kernel.Run.frame m ρ, fun m ρ _ => Cert.KernelIdeal.Run.frame m ρ,
    fun m ρ _ => Cert.ReferenceIdeal.Gen.frame m ρ, trivial, Cert.Proof.algebraic⟩

end
